-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top2_KernelIdeal [hPre_top2_KernelIdeal : Cert.Pre_top2_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_top2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_top2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_top2_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top2_ReferenceIdeal [hPre_top2_ReferenceIdeal : Cert.Pre_top2_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_top2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_top2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_top2_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_top2_KernelIdeal [hKernelIdeal : Cert.KernelIdeal.Facts] [hPre_top2_KernelIdeal : Cert.Pre_top2_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top2_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_top2_ReferenceIdeal [hReferenceIdeal : Cert.ReferenceIdeal.Facts] [hPre_top2_ReferenceIdeal : Cert.Pre_top2_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top2_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_top2_KernelIdeal [hKernelIdeal : Cert.KernelIdeal.Facts] [hReferenceIdeal : Cert.ReferenceIdeal.Facts] [hPre_top2_KernelIdeal : Cert.Pre_top2_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top2_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_top2_KernelIdeal : Cert.Pre_top2_KernelIdeal.Facts) (hPre_top2_ReferenceIdeal : Cert.Pre_top2_ReferenceIdeal.Facts),
    quiescent_Kernel (hKernel := hKernel)
    ∧ quiescent_KernelIdeal (hKernelIdeal := hKernelIdeal)
    ∧ quiescent_KernelIdeal_pre_top2_KernelIdeal (hKernelIdeal := hKernelIdeal) (hPre_top2_KernelIdeal := hPre_top2_KernelIdeal)
    ∧ quiescent_ReferenceIdeal (hReferenceIdeal := hReferenceIdeal)
    ∧ quiescent_ReferenceIdeal_pre_top2_ReferenceIdeal (hReferenceIdeal := hReferenceIdeal) (hPre_top2_ReferenceIdeal := hPre_top2_ReferenceIdeal)
    ∧ preserves_Kernel_KernelIdeal
    ∧ algebraic_KernelIdeal_ReferenceIdeal_pre_top2_KernelIdeal (hKernelIdeal := hKernelIdeal) (hReferenceIdeal := hReferenceIdeal) (hPre_top2_KernelIdeal := hPre_top2_KernelIdeal)
-- ==== Pre_top2_KernelIdeal.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S512x1 : Shape := ⟨2, ![512, 1]⟩
abbrev S512 : Shape := ⟨1, ![512]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512x256 : S_.BroadcastsInDim S512x256 (![] : Fin 0 → Fin S512x256.rank)
  bcast_S_S256x64 : S_.BroadcastsInDim S256x64 (![] : Fin 0 → Fin S256x64.rank)
  bcast_S_S512x2 : S_.BroadcastsInDim S512x2 (![] : Fin 0 → Fin S512x2.rank)

variable [Facts]

def fn_part1 {F : FTy → Type} [FloatOps F] (main_v1 : IVec S512 32) (main_v3 : IVec S512 32) (main_v8 : IVec S512x256 1) (main_v13 : IVec S256x64 1) (main_v15 : IVec S512x2 1) (main_v17 : IVec S512x2 1) : IVec S512x256 1 × IVec S256x64 1 × IVec S512x2 1 × IVec S512 1 :=
  let main_v18 : IVec S512x2 1 := andi main_v15 main_v17
  let main_v19 : IVec S512 1 := cmpi .ne main_v1 main_v3
  (main_v8, main_v13, main_v18, main_v19)

def fn {F : FTy → Type} [FloatOps F] (main_arg0 : FVec F S512x256 .f32) (main_arg1 : FVec F S256x64 .f32) (main_arg2 : IVec S512x2 32) (main_arg3 : FVec F S2x256x512 .f32) : IVec S512x256 1 × IVec S256x64 1 × IVec S512x2 1 × IVec S512 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_cst : FVec F S_ .f32 := constant S_ .f32 0x7F800000#32
  let main_v4 : FVec F S512x256 .f32 := broadcastInDim S512x256 ![] bcast_S_S512x256 main_cst
  let main_v5 : IVec S512x256 1 := cmpf .olt main_arg0 main_v4
  let main_cst_0 : FVec F S_ .f32 := constant S_ .f32 0xFF800000#32
  let main_v6 : FVec F S512x256 .f32 := broadcastInDim S512x256 ![] bcast_S_S512x256 main_cst_0
  let main_v7 : IVec S512x256 1 := cmpf .ogt main_arg0 main_v6
  let main_v8 : IVec S512x256 1 := andi main_v5 main_v7
  let main_cst_1 : FVec F S_ .f32 := constant S_ .f32 0x7F800000#32
  let main_v9 : FVec F S256x64 .f32 := broadcastInDim S256x64 ![] bcast_S_S256x64 main_cst_1
  let main_v10 : IVec S256x64 1 := cmpf .olt main_arg1 main_v9
  let main_cst_2 : FVec F S_ .f32 := constant S_ .f32 0xFF800000#32
  let main_v11 : FVec F S256x64 .f32 := broadcastInDim S256x64 ![] bcast_S_S256x64 main_cst_2
  let main_v12 : IVec S256x64 1 := cmpf .ogt main_arg1 main_v11
  let main_v13 : IVec S256x64 1 := andi main_v10 main_v12
  let main_c : IVec S_ 32 := constantI S_ 32 0#32
  let main_v14 : IVec S512x2 32 := broadcastInDim S512x2 ![] bcast_S_S512x2 main_c
  let main_v15 : IVec S512x2 1 := cmpi .sge main_arg2 main_v14
  let main_c_3 : IVec S_ 32 := constantI S_ 32 64#32
  let main_v16 : IVec S512x2 32 := broadcastInDim S512x2 ![] bcast_S_S512x2 main_c_3
  let main_v17 : IVec S512x2 1 := cmpi .slt main_arg2 main_v16
  fn_part1 (F := F) main_v1 main_v3 main_v8 main_v13 main_v15 main_v17
-- ==== Pre_top2_ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x1 : Shape := ⟨2, ![512, 1]⟩
abbrev S512 : Shape := ⟨1, ![512]⟩
abbrev S_ : Shape := ⟨0, ![]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512x256 : S_.BroadcastsInDim S512x256 (![] : Fin 0 → Fin S512x256.rank)
  bcast_S_S256x64 : S_.BroadcastsInDim S256x64 (![] : Fin 0 → Fin S256x64.rank)
  bcast_S_S512x2 : S_.BroadcastsInDim S512x2 (![] : Fin 0 → Fin S512x2.rank)

variable [Facts]

def fn_part1 {F : FTy → Type} [FloatOps F] (main_v1 : IVec S512 32) (main_v3 : IVec S512 32) (main_v8 : IVec S512x256 1) (main_v13 : IVec S256x64 1) (main_v15 : IVec S512x2 1) (main_v17 : IVec S512x2 1) : IVec S512x256 1 × IVec S256x64 1 × IVec S512x2 1 × IVec S512 1 :=
  let main_v18 : IVec S512x2 1 := andi main_v15 main_v17
  let main_v19 : IVec S512 1 := cmpi .ne main_v1 main_v3
  (main_v8, main_v13, main_v18, main_v19)

def fn {F : FTy → Type} [FloatOps F] (main_arg0 : FVec F S512x256 .f32) (main_arg1 : FVec F S256x64 .f32) (main_arg2 : IVec S512x2 32) (main_arg3 : FVec F S64x256x512 .f32) : IVec S512x256 1 × IVec S256x64 1 × IVec S512x2 1 × IVec S512 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_cst : FVec F S_ .f32 := constant S_ .f32 0x7F800000#32
  let main_v4 : FVec F S512x256 .f32 := broadcastInDim S512x256 ![] bcast_S_S512x256 main_cst
  let main_v5 : IVec S512x256 1 := cmpf .olt main_arg0 main_v4
  let main_cst_0 : FVec F S_ .f32 := constant S_ .f32 0xFF800000#32
  let main_v6 : FVec F S512x256 .f32 := broadcastInDim S512x256 ![] bcast_S_S512x256 main_cst_0
  let main_v7 : IVec S512x256 1 := cmpf .ogt main_arg0 main_v6
  let main_v8 : IVec S512x256 1 := andi main_v5 main_v7
  let main_cst_1 : FVec F S_ .f32 := constant S_ .f32 0x7F800000#32
  let main_v9 : FVec F S256x64 .f32 := broadcastInDim S256x64 ![] bcast_S_S256x64 main_cst_1
  let main_v10 : IVec S256x64 1 := cmpf .olt main_arg1 main_v9
  let main_cst_2 : FVec F S_ .f32 := constant S_ .f32 0xFF800000#32
  let main_v11 : FVec F S256x64 .f32 := broadcastInDim S256x64 ![] bcast_S_S256x64 main_cst_2
  let main_v12 : IVec S256x64 1 := cmpf .ogt main_arg1 main_v11
  let main_v13 : IVec S256x64 1 := andi main_v10 main_v12
  let main_c : IVec S_ 32 := constantI S_ 32 0#32
  let main_v14 : IVec S512x2 32 := broadcastInDim S512x2 ![] bcast_S_S512x2 main_c
  let main_v15 : IVec S512x2 1 := cmpi .sge main_arg2 main_v14
  let main_c_3 : IVec S_ 32 := constantI S_ 32 64#32
  let main_v16 : IVec S512x2 32 := broadcastInDim S512x2 ![] bcast_S_S512x2 main_c_3
  let main_v17 : IVec S512x2 1 := cmpi .slt main_arg2 main_v16
  fn_part1 (F := F) main_v1 main_v3 main_v8 main_v13 main_v15 main_v17
-- ==== Kernel.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S512x512 : Shape := ⟨2, ![512, 512]⟩
abbrev S32x16x512 : Shape := ⟨3, ![32, 16, 512]⟩
abbrev S16x512 : Shape := ⟨2, ![16, 512]⟩
abbrev S32 : Shape := ⟨1, ![32]⟩
abbrev S_ : Shape := ⟨0, ![]⟩
abbrev S512x64 : Shape := ⟨2, ![512, 64]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1 : Shape := ⟨1, ![1]⟩
abbrev S1x16x512 : Shape := ⟨3, ![1, 16, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S32x16x512, .f32⟩
  | .local _ .vmem, ⟨6, _⟩ => ⟨S16x512, .f32⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_off1 (d0 : Dev nD) (c1_i32_131 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v146 : BitVec 32 := Scalar.addi v2 c1_i32_131
  let c32_i32_132 : BitVec 32 := 32#32
  let c0_i32_133 : BitVec 32 := 0#32
  let v147 : BitVec 1 := Scalar.cmpi .eq c32_i32_132 c0_i32_133
  let c1_i32_134 : BitVec 32 := 1#32
  let v148 : BitVec 32 := Scalar.select v147 c1_i32_134 c32_i32_132
  let v149 : BitVec 32 := Scalar.remsi v146 v148
  let c0_i32_136 : BitVec 32 := 0#32
  let v151 : BitVec 1 := Scalar.cmpi .slt v149 c0_i32_136
  let c0_i32_137 : BitVec 32 := 0#32
  let v152 : BitVec 1 := Scalar.cmpi .slt v148 c0_i32_137
  let v153 : BitVec 1 := Scalar.xori v151 v152
  let c0_i32_135 : BitVec 32 := 0#32
  let v150 : BitVec 1 := Scalar.cmpi .ne v149 c0_i32_135
  let v154 : BitVec 1 := Scalar.andi v153 v150
  let v155 : BitVec 32 := Scalar.addi v149 v148
  let v156 : BitVec 32 := Scalar.select v154 v155 v149
  let c16_i32_138 : BitVec 32 := 16#32
  let v157 : BitVec 32 := Scalar.muli v156 c16_i32_138
  let c0_i32_146 : BitVec 32 := 0#32
  ![v157.toNat, 0]
def k0_dev33 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v146 : BitVec 32 := Scalar.addi v2 c1_i32_131
  let c32_i32_132 : BitVec 32 := 32#32
  let c0_i32_133 : BitVec 32 := 0#32
  let v147 : BitVec 1 := Scalar.cmpi .eq c32_i32_132 c0_i32_133
  let c1_i32_134 : BitVec 32 := 1#32
  let v148 : BitVec 32 := Scalar.select v147 c1_i32_134 c32_i32_132
  let v149 : BitVec 32 := Scalar.remsi v146 v148
  let c0_i32_136 : BitVec 32 := 0#32
  let v151 : BitVec 1 := Scalar.cmpi .slt v149 c0_i32_136
  let c0_i32_137 : BitVec 32 := 0#32
  let v152 : BitVec 1 := Scalar.cmpi .slt v148 c0_i32_137
  let v153 : BitVec 1 := Scalar.xori v151 v152
  let c0_i32_135 : BitVec 32 := 0#32
  let v150 : BitVec 1 := Scalar.cmpi .ne v149 c0_i32_135
  let v154 : BitVec 1 := Scalar.andi v153 v150
  let v155 : BitVec 32 := Scalar.addi v149 v148
  let v156 : BitVec 32 := Scalar.select v154 v155 v149
  let c1_i32_142 : BitVec 32 := 1#32
  let v158 : BitVec 32 := Scalar.muli v156 c1_i32_142
  let v159 : BitVec 32 := Scalar.addi c0_i32_143 v158
  v159.toNat
def k0_dev34 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_147 : BitVec 32 := 2#32
  let v167 : BitVec 32 := Scalar.addi v2 c2_i32_147
  let c32_i32_148 : BitVec 32 := 32#32
  let c0_i32_149 : BitVec 32 := 0#32
  let v168 : BitVec 1 := Scalar.cmpi .eq c32_i32_148 c0_i32_149
  let c1_i32_150 : BitVec 32 := 1#32
  let v169 : BitVec 32 := Scalar.select v168 c1_i32_150 c32_i32_148
  let v170 : BitVec 32 := Scalar.remsi v167 v169
  let c0_i32_152 : BitVec 32 := 0#32
  let v172 : BitVec 1 := Scalar.cmpi .slt v170 c0_i32_152
  let c0_i32_153 : BitVec 32 := 0#32
  let v173 : BitVec 1 := Scalar.cmpi .slt v169 c0_i32_153
  let v174 : BitVec 1 := Scalar.xori v172 v173
  let c0_i32_151 : BitVec 32 := 0#32
  let v171 : BitVec 1 := Scalar.cmpi .ne v170 c0_i32_151
  let v175 : BitVec 1 := Scalar.andi v174 v171
  let v176 : BitVec 32 := Scalar.addi v170 v169
  let v177 : BitVec 32 := Scalar.select v175 v176 v170
  let c1_i32_158 : BitVec 32 := 1#32
  let v179 : BitVec 32 := Scalar.muli v177 c1_i32_158
  let v180 : BitVec 32 := Scalar.addi c0_i32_159 v179
  v180.toNat
def k0_dev35 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_163 : BitVec 32 := 3#32
  let v188 : BitVec 32 := Scalar.addi v2 c3_i32_163
  let c32_i32_164 : BitVec 32 := 32#32
  let c0_i32_165 : BitVec 32 := 0#32
  let v189 : BitVec 1 := Scalar.cmpi .eq c32_i32_164 c0_i32_165
  let c1_i32_166 : BitVec 32 := 1#32
  let v190 : BitVec 32 := Scalar.select v189 c1_i32_166 c32_i32_164
  let v191 : BitVec 32 := Scalar.remsi v188 v190
  let c0_i32_168 : BitVec 32 := 0#32
  let v193 : BitVec 1 := Scalar.cmpi .slt v191 c0_i32_168
  let c0_i32_169 : BitVec 32 := 0#32
  let v194 : BitVec 1 := Scalar.cmpi .slt v190 c0_i32_169
  let v195 : BitVec 1 := Scalar.xori v193 v194
  let c0_i32_167 : BitVec 32 := 0#32
  let v192 : BitVec 1 := Scalar.cmpi .ne v191 c0_i32_167
  let v196 : BitVec 1 := Scalar.andi v195 v192
  let v197 : BitVec 32 := Scalar.addi v191 v190
  let v198 : BitVec 32 := Scalar.select v196 v197 v191
  let c1_i32_174 : BitVec 32 := 1#32
  let v200 : BitVec 32 := Scalar.muli v198 c1_i32_174
  let v201 : BitVec 32 := Scalar.addi c0_i32_175 v200
  v201.toNat
def k0_dev36 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_179 : BitVec 32 := 4#32
  let v209 : BitVec 32 := Scalar.addi v2 c4_i32_179
  let c32_i32_180 : BitVec 32 := 32#32
  let c0_i32_181 : BitVec 32 := 0#32
  let v210 : BitVec 1 := Scalar.cmpi .eq c32_i32_180 c0_i32_181
  let c1_i32_182 : BitVec 32 := 1#32
  let v211 : BitVec 32 := Scalar.select v210 c1_i32_182 c32_i32_180
  let v212 : BitVec 32 := Scalar.remsi v209 v211
  let c0_i32_184 : BitVec 32 := 0#32
  let v214 : BitVec 1 := Scalar.cmpi .slt v212 c0_i32_184
  let c0_i32_185 : BitVec 32 := 0#32
  let v215 : BitVec 1 := Scalar.cmpi .slt v211 c0_i32_185
  let v216 : BitVec 1 := Scalar.xori v214 v215
  let c0_i32_183 : BitVec 32 := 0#32
  let v213 : BitVec 1 := Scalar.cmpi .ne v212 c0_i32_183
  let v217 : BitVec 1 := Scalar.andi v216 v213
  let v218 : BitVec 32 := Scalar.addi v212 v211
  let v219 : BitVec 32 := Scalar.select v217 v218 v212
  let c1_i32_190 : BitVec 32 := 1#32
  let v221 : BitVec 32 := Scalar.muli v219 c1_i32_190
  let v222 : BitVec 32 := Scalar.addi c0_i32_191 v221
  v222.toNat
def k0_dev37 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_195 : BitVec 32 := 5#32
  let v230 : BitVec 32 := Scalar.addi v2 c5_i32_195
  let c32_i32_196 : BitVec 32 := 32#32
  let c0_i32_197 : BitVec 32 := 0#32
  let v231 : BitVec 1 := Scalar.cmpi .eq c32_i32_196 c0_i32_197
  let c1_i32_198 : BitVec 32 := 1#32
  let v232 : BitVec 32 := Scalar.select v231 c1_i32_198 c32_i32_196
  let v233 : BitVec 32 := Scalar.remsi v230 v232
  let c0_i32_200 : BitVec 32 := 0#32
  let v235 : BitVec 1 := Scalar.cmpi .slt v233 c0_i32_200
  let c0_i32_201 : BitVec 32 := 0#32
  let v236 : BitVec 1 := Scalar.cmpi .slt v232 c0_i32_201
  let v237 : BitVec 1 := Scalar.xori v235 v236
  let c0_i32_199 : BitVec 32 := 0#32
  let v234 : BitVec 1 := Scalar.cmpi .ne v233 c0_i32_199
  let v238 : BitVec 1 := Scalar.andi v237 v234
  let v239 : BitVec 32 := Scalar.addi v233 v232
  let v240 : BitVec 32 := Scalar.select v238 v239 v233
  let c1_i32_206 : BitVec 32 := 1#32
  let v242 : BitVec 32 := Scalar.muli v240 c1_i32_206
  let v243 : BitVec 32 := Scalar.addi c0_i32_207 v242
  v243.toNat
def k0_dev38 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_211 : BitVec 32 := 6#32
  let v251 : BitVec 32 := Scalar.addi v2 c6_i32_211
  let c32_i32_212 : BitVec 32 := 32#32
  let c0_i32_213 : BitVec 32 := 0#32
  let v252 : BitVec 1 := Scalar.cmpi .eq c32_i32_212 c0_i32_213
  let c1_i32_214 : BitVec 32 := 1#32
  let v253 : BitVec 32 := Scalar.select v252 c1_i32_214 c32_i32_212
  let v254 : BitVec 32 := Scalar.remsi v251 v253
  let c0_i32_216 : BitVec 32 := 0#32
  let v256 : BitVec 1 := Scalar.cmpi .slt v254 c0_i32_216
  let c0_i32_217 : BitVec 32 := 0#32
  let v257 : BitVec 1 := Scalar.cmpi .slt v253 c0_i32_217
  let v258 : BitVec 1 := Scalar.xori v256 v257
  let c0_i32_215 : BitVec 32 := 0#32
  let v255 : BitVec 1 := Scalar.cmpi .ne v254 c0_i32_215
  let v259 : BitVec 1 := Scalar.andi v258 v255
  let v260 : BitVec 32 := Scalar.addi v254 v253
  let v261 : BitVec 32 := Scalar.select v259 v260 v254
  let c1_i32_222 : BitVec 32 := 1#32
  let v263 : BitVec 32 := Scalar.muli v261 c1_i32_222
  let v264 : BitVec 32 := Scalar.addi c0_i32_223 v263
  v264.toNat
def k0_dev39 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_227 : BitVec 32 := 7#32
  let v272 : BitVec 32 := Scalar.addi v2 c7_i32_227
  let c32_i32_228 : BitVec 32 := 32#32
  let c0_i32_229 : BitVec 32 := 0#32
  let v273 : BitVec 1 := Scalar.cmpi .eq c32_i32_228 c0_i32_229
  let c1_i32_230 : BitVec 32 := 1#32
  let v274 : BitVec 32 := Scalar.select v273 c1_i32_230 c32_i32_228
  let v275 : BitVec 32 := Scalar.remsi v272 v274
  let c0_i32_232 : BitVec 32 := 0#32
  let v277 : BitVec 1 := Scalar.cmpi .slt v275 c0_i32_232
  let c0_i32_233 : BitVec 32 := 0#32
  let v278 : BitVec 1 := Scalar.cmpi .slt v274 c0_i32_233
  let v279 : BitVec 1 := Scalar.xori v277 v278
  let c0_i32_231 : BitVec 32 := 0#32
  let v276 : BitVec 1 := Scalar.cmpi .ne v275 c0_i32_231
  let v280 : BitVec 1 := Scalar.andi v279 v276
  let v281 : BitVec 32 := Scalar.addi v275 v274
  let v282 : BitVec 32 := Scalar.select v280 v281 v275
  let c1_i32_238 : BitVec 32 := 1#32
  let v284 : BitVec 32 := Scalar.muli v282 c1_i32_238
  let v285 : BitVec 32 := Scalar.addi c0_i32_239 v284
  v285.toNat
def k0_dev40 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_243 : BitVec 32 := 8#32
  let v293 : BitVec 32 := Scalar.addi v2 c8_i32_243
  let c32_i32_244 : BitVec 32 := 32#32
  let c0_i32_245 : BitVec 32 := 0#32
  let v294 : BitVec 1 := Scalar.cmpi .eq c32_i32_244 c0_i32_245
  let c1_i32_246 : BitVec 32 := 1#32
  let v295 : BitVec 32 := Scalar.select v294 c1_i32_246 c32_i32_244
  let v296 : BitVec 32 := Scalar.remsi v293 v295
  let c0_i32_248 : BitVec 32 := 0#32
  let v298 : BitVec 1 := Scalar.cmpi .slt v296 c0_i32_248
  let c0_i32_249 : BitVec 32 := 0#32
  let v299 : BitVec 1 := Scalar.cmpi .slt v295 c0_i32_249
  let v300 : BitVec 1 := Scalar.xori v298 v299
  let c0_i32_247 : BitVec 32 := 0#32
  let v297 : BitVec 1 := Scalar.cmpi .ne v296 c0_i32_247
  let v301 : BitVec 1 := Scalar.andi v300 v297
  let v302 : BitVec 32 := Scalar.addi v296 v295
  let v303 : BitVec 32 := Scalar.select v301 v302 v296
  let c1_i32_254 : BitVec 32 := 1#32
  let v305 : BitVec 32 := Scalar.muli v303 c1_i32_254
  let v306 : BitVec 32 := Scalar.addi c0_i32_255 v305
  v306.toNat
def k0_dev41 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_259 : BitVec 32 := 9#32
  let v314 : BitVec 32 := Scalar.addi v2 c9_i32_259
  let c32_i32_260 : BitVec 32 := 32#32
  let c0_i32_261 : BitVec 32 := 0#32
  let v315 : BitVec 1 := Scalar.cmpi .eq c32_i32_260 c0_i32_261
  let c1_i32_262 : BitVec 32 := 1#32
  let v316 : BitVec 32 := Scalar.select v315 c1_i32_262 c32_i32_260
  let v317 : BitVec 32 := Scalar.remsi v314 v316
  let c0_i32_264 : BitVec 32 := 0#32
  let v319 : BitVec 1 := Scalar.cmpi .slt v317 c0_i32_264
  let c0_i32_265 : BitVec 32 := 0#32
  let v320 : BitVec 1 := Scalar.cmpi .slt v316 c0_i32_265
  let v321 : BitVec 1 := Scalar.xori v319 v320
  let c0_i32_263 : BitVec 32 := 0#32
  let v318 : BitVec 1 := Scalar.cmpi .ne v317 c0_i32_263
  let v322 : BitVec 1 := Scalar.andi v321 v318
  let v323 : BitVec 32 := Scalar.addi v317 v316
  let v324 : BitVec 32 := Scalar.select v322 v323 v317
  let c1_i32_270 : BitVec 32 := 1#32
  let v326 : BitVec 32 := Scalar.muli v324 c1_i32_270
  let v327 : BitVec 32 := Scalar.addi c0_i32_271 v326
  v327.toNat
def k0_dev42 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_275 : BitVec 32 := 10#32
  let v335 : BitVec 32 := Scalar.addi v2 c10_i32_275
  let c32_i32_276 : BitVec 32 := 32#32
  let c0_i32_277 : BitVec 32 := 0#32
  let v336 : BitVec 1 := Scalar.cmpi .eq c32_i32_276 c0_i32_277
  let c1_i32_278 : BitVec 32 := 1#32
  let v337 : BitVec 32 := Scalar.select v336 c1_i32_278 c32_i32_276
  let v338 : BitVec 32 := Scalar.remsi v335 v337
  let c0_i32_280 : BitVec 32 := 0#32
  let v340 : BitVec 1 := Scalar.cmpi .slt v338 c0_i32_280
  let c0_i32_281 : BitVec 32 := 0#32
  let v341 : BitVec 1 := Scalar.cmpi .slt v337 c0_i32_281
  let v342 : BitVec 1 := Scalar.xori v340 v341
  let c0_i32_279 : BitVec 32 := 0#32
  let v339 : BitVec 1 := Scalar.cmpi .ne v338 c0_i32_279
  let v343 : BitVec 1 := Scalar.andi v342 v339
  let v344 : BitVec 32 := Scalar.addi v338 v337
  let v345 : BitVec 32 := Scalar.select v343 v344 v338
  let c1_i32_286 : BitVec 32 := 1#32
  let v347 : BitVec 32 := Scalar.muli v345 c1_i32_286
  let v348 : BitVec 32 := Scalar.addi c0_i32_287 v347
  v348.toNat
def k0_dev43 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_291 : BitVec 32 := 11#32
  let v356 : BitVec 32 := Scalar.addi v2 c11_i32_291
  let c32_i32_292 : BitVec 32 := 32#32
  let c0_i32_293 : BitVec 32 := 0#32
  let v357 : BitVec 1 := Scalar.cmpi .eq c32_i32_292 c0_i32_293
  let c1_i32_294 : BitVec 32 := 1#32
  let v358 : BitVec 32 := Scalar.select v357 c1_i32_294 c32_i32_292
  let v359 : BitVec 32 := Scalar.remsi v356 v358
  let c0_i32_296 : BitVec 32 := 0#32
  let v361 : BitVec 1 := Scalar.cmpi .slt v359 c0_i32_296
  let c0_i32_297 : BitVec 32 := 0#32
  let v362 : BitVec 1 := Scalar.cmpi .slt v358 c0_i32_297
  let v363 : BitVec 1 := Scalar.xori v361 v362
  let c0_i32_295 : BitVec 32 := 0#32
  let v360 : BitVec 1 := Scalar.cmpi .ne v359 c0_i32_295
  let v364 : BitVec 1 := Scalar.andi v363 v360
  let v365 : BitVec 32 := Scalar.addi v359 v358
  let v366 : BitVec 32 := Scalar.select v364 v365 v359
  let c1_i32_302 : BitVec 32 := 1#32
  let v368 : BitVec 32 := Scalar.muli v366 c1_i32_302
  let v369 : BitVec 32 := Scalar.addi c0_i32_303 v368
  v369.toNat
def k0_dev44 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_307 : BitVec 32 := 12#32
  let v377 : BitVec 32 := Scalar.addi v2 c12_i32_307
  let c32_i32_308 : BitVec 32 := 32#32
  let c0_i32_309 : BitVec 32 := 0#32
  let v378 : BitVec 1 := Scalar.cmpi .eq c32_i32_308 c0_i32_309
  let c1_i32_310 : BitVec 32 := 1#32
  let v379 : BitVec 32 := Scalar.select v378 c1_i32_310 c32_i32_308
  let v380 : BitVec 32 := Scalar.remsi v377 v379
  let c0_i32_312 : BitVec 32 := 0#32
  let v382 : BitVec 1 := Scalar.cmpi .slt v380 c0_i32_312
  let c0_i32_313 : BitVec 32 := 0#32
  let v383 : BitVec 1 := Scalar.cmpi .slt v379 c0_i32_313
  let v384 : BitVec 1 := Scalar.xori v382 v383
  let c0_i32_311 : BitVec 32 := 0#32
  let v381 : BitVec 1 := Scalar.cmpi .ne v380 c0_i32_311
  let v385 : BitVec 1 := Scalar.andi v384 v381
  let v386 : BitVec 32 := Scalar.addi v380 v379
  let v387 : BitVec 32 := Scalar.select v385 v386 v380
  let c1_i32_318 : BitVec 32 := 1#32
  let v389 : BitVec 32 := Scalar.muli v387 c1_i32_318
  let v390 : BitVec 32 := Scalar.addi c0_i32_319 v389
  v390.toNat
def k0_dev45 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_323 : BitVec 32 := 13#32
  let v398 : BitVec 32 := Scalar.addi v2 c13_i32_323
  let c32_i32_324 : BitVec 32 := 32#32
  let c0_i32_325 : BitVec 32 := 0#32
  let v399 : BitVec 1 := Scalar.cmpi .eq c32_i32_324 c0_i32_325
  let c1_i32_326 : BitVec 32 := 1#32
  let v400 : BitVec 32 := Scalar.select v399 c1_i32_326 c32_i32_324
  let v401 : BitVec 32 := Scalar.remsi v398 v400
  let c0_i32_328 : BitVec 32 := 0#32
  let v403 : BitVec 1 := Scalar.cmpi .slt v401 c0_i32_328
  let c0_i32_329 : BitVec 32 := 0#32
  let v404 : BitVec 1 := Scalar.cmpi .slt v400 c0_i32_329
  let v405 : BitVec 1 := Scalar.xori v403 v404
  let c0_i32_327 : BitVec 32 := 0#32
  let v402 : BitVec 1 := Scalar.cmpi .ne v401 c0_i32_327
  let v406 : BitVec 1 := Scalar.andi v405 v402
  let v407 : BitVec 32 := Scalar.addi v401 v400
  let v408 : BitVec 32 := Scalar.select v406 v407 v401
  let c1_i32_334 : BitVec 32 := 1#32
  let v410 : BitVec 32 := Scalar.muli v408 c1_i32_334
  let v411 : BitVec 32 := Scalar.addi c0_i32_335 v410
  v411.toNat
def k0_dev46 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_339 : BitVec 32 := 14#32
  let v419 : BitVec 32 := Scalar.addi v2 c14_i32_339
  let c32_i32_340 : BitVec 32 := 32#32
  let c0_i32_341 : BitVec 32 := 0#32
  let v420 : BitVec 1 := Scalar.cmpi .eq c32_i32_340 c0_i32_341
  let c1_i32_342 : BitVec 32 := 1#32
  let v421 : BitVec 32 := Scalar.select v420 c1_i32_342 c32_i32_340
  let v422 : BitVec 32 := Scalar.remsi v419 v421
  let c0_i32_344 : BitVec 32 := 0#32
  let v424 : BitVec 1 := Scalar.cmpi .slt v422 c0_i32_344
  let c0_i32_345 : BitVec 32 := 0#32
  let v425 : BitVec 1 := Scalar.cmpi .slt v421 c0_i32_345
  let v426 : BitVec 1 := Scalar.xori v424 v425
  let c0_i32_343 : BitVec 32 := 0#32
  let v423 : BitVec 1 := Scalar.cmpi .ne v422 c0_i32_343
  let v427 : BitVec 1 := Scalar.andi v426 v423
  let v428 : BitVec 32 := Scalar.addi v422 v421
  let v429 : BitVec 32 := Scalar.select v427 v428 v422
  let c1_i32_350 : BitVec 32 := 1#32
  let v431 : BitVec 32 := Scalar.muli v429 c1_i32_350
  let v432 : BitVec 32 := Scalar.addi c0_i32_351 v431
  v432.toNat
def k0_dev47 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_355 : BitVec 32 := 15#32
  let v440 : BitVec 32 := Scalar.addi v2 c15_i32_355
  let c32_i32_356 : BitVec 32 := 32#32
  let c0_i32_357 : BitVec 32 := 0#32
  let v441 : BitVec 1 := Scalar.cmpi .eq c32_i32_356 c0_i32_357
  let c1_i32_358 : BitVec 32 := 1#32
  let v442 : BitVec 32 := Scalar.select v441 c1_i32_358 c32_i32_356
  let v443 : BitVec 32 := Scalar.remsi v440 v442
  let c0_i32_360 : BitVec 32 := 0#32
  let v445 : BitVec 1 := Scalar.cmpi .slt v443 c0_i32_360
  let c0_i32_361 : BitVec 32 := 0#32
  let v446 : BitVec 1 := Scalar.cmpi .slt v442 c0_i32_361
  let v447 : BitVec 1 := Scalar.xori v445 v446
  let c0_i32_359 : BitVec 32 := 0#32
  let v444 : BitVec 1 := Scalar.cmpi .ne v443 c0_i32_359
  let v448 : BitVec 1 := Scalar.andi v447 v444
  let v449 : BitVec 32 := Scalar.addi v443 v442
  let v450 : BitVec 32 := Scalar.select v448 v449 v443
  let c1_i32_366 : BitVec 32 := 1#32
  let v452 : BitVec 32 := Scalar.muli v450 c1_i32_366
  let v453 : BitVec 32 := Scalar.addi c0_i32_367 v452
  v453.toNat
def k0_dev48 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_371 : BitVec 32 := 16#32
  let v461 : BitVec 32 := Scalar.addi v2 c16_i32_371
  let c32_i32_372 : BitVec 32 := 32#32
  let c0_i32_373 : BitVec 32 := 0#32
  let v462 : BitVec 1 := Scalar.cmpi .eq c32_i32_372 c0_i32_373
  let c1_i32_374 : BitVec 32 := 1#32
  let v463 : BitVec 32 := Scalar.select v462 c1_i32_374 c32_i32_372
  let v464 : BitVec 32 := Scalar.remsi v461 v463
  let c0_i32_376 : BitVec 32 := 0#32
  let v466 : BitVec 1 := Scalar.cmpi .slt v464 c0_i32_376
  let c0_i32_377 : BitVec 32 := 0#32
  let v467 : BitVec 1 := Scalar.cmpi .slt v463 c0_i32_377
  let v468 : BitVec 1 := Scalar.xori v466 v467
  let c0_i32_375 : BitVec 32 := 0#32
  let v465 : BitVec 1 := Scalar.cmpi .ne v464 c0_i32_375
  let v469 : BitVec 1 := Scalar.andi v468 v465
  let v470 : BitVec 32 := Scalar.addi v464 v463
  let v471 : BitVec 32 := Scalar.select v469 v470 v464
  let c1_i32_382 : BitVec 32 := 1#32
  let v473 : BitVec 32 := Scalar.muli v471 c1_i32_382
  let v474 : BitVec 32 := Scalar.addi c0_i32_383 v473
  v474.toNat
def k0_dev49 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_387 : BitVec 32 := 17#32
  let v482 : BitVec 32 := Scalar.addi v2 c17_i32_387
  let c32_i32_388 : BitVec 32 := 32#32
  let c0_i32_389 : BitVec 32 := 0#32
  let v483 : BitVec 1 := Scalar.cmpi .eq c32_i32_388 c0_i32_389
  let c1_i32_390 : BitVec 32 := 1#32
  let v484 : BitVec 32 := Scalar.select v483 c1_i32_390 c32_i32_388
  let v485 : BitVec 32 := Scalar.remsi v482 v484
  let c0_i32_392 : BitVec 32 := 0#32
  let v487 : BitVec 1 := Scalar.cmpi .slt v485 c0_i32_392
  let c0_i32_393 : BitVec 32 := 0#32
  let v488 : BitVec 1 := Scalar.cmpi .slt v484 c0_i32_393
  let v489 : BitVec 1 := Scalar.xori v487 v488
  let c0_i32_391 : BitVec 32 := 0#32
  let v486 : BitVec 1 := Scalar.cmpi .ne v485 c0_i32_391
  let v490 : BitVec 1 := Scalar.andi v489 v486
  let v491 : BitVec 32 := Scalar.addi v485 v484
  let v492 : BitVec 32 := Scalar.select v490 v491 v485
  let c1_i32_398 : BitVec 32 := 1#32
  let v494 : BitVec 32 := Scalar.muli v492 c1_i32_398
  let v495 : BitVec 32 := Scalar.addi c0_i32_399 v494
  v495.toNat
def k0_dev50 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_403 : BitVec 32 := 18#32
  let v503 : BitVec 32 := Scalar.addi v2 c18_i32_403
  let c32_i32_404 : BitVec 32 := 32#32
  let c0_i32_405 : BitVec 32 := 0#32
  let v504 : BitVec 1 := Scalar.cmpi .eq c32_i32_404 c0_i32_405
  let c1_i32_406 : BitVec 32 := 1#32
  let v505 : BitVec 32 := Scalar.select v504 c1_i32_406 c32_i32_404
  let v506 : BitVec 32 := Scalar.remsi v503 v505
  let c0_i32_408 : BitVec 32 := 0#32
  let v508 : BitVec 1 := Scalar.cmpi .slt v506 c0_i32_408
  let c0_i32_409 : BitVec 32 := 0#32
  let v509 : BitVec 1 := Scalar.cmpi .slt v505 c0_i32_409
  let v510 : BitVec 1 := Scalar.xori v508 v509
  let c0_i32_407 : BitVec 32 := 0#32
  let v507 : BitVec 1 := Scalar.cmpi .ne v506 c0_i32_407
  let v511 : BitVec 1 := Scalar.andi v510 v507
  let v512 : BitVec 32 := Scalar.addi v506 v505
  let v513 : BitVec 32 := Scalar.select v511 v512 v506
  let c1_i32_414 : BitVec 32 := 1#32
  let v515 : BitVec 32 := Scalar.muli v513 c1_i32_414
  let v516 : BitVec 32 := Scalar.addi c0_i32_415 v515
  v516.toNat
def k0_dev51 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_419 : BitVec 32 := 19#32
  let v524 : BitVec 32 := Scalar.addi v2 c19_i32_419
  let c32_i32_420 : BitVec 32 := 32#32
  let c0_i32_421 : BitVec 32 := 0#32
  let v525 : BitVec 1 := Scalar.cmpi .eq c32_i32_420 c0_i32_421
  let c1_i32_422 : BitVec 32 := 1#32
  let v526 : BitVec 32 := Scalar.select v525 c1_i32_422 c32_i32_420
  let v527 : BitVec 32 := Scalar.remsi v524 v526
  let c0_i32_424 : BitVec 32 := 0#32
  let v529 : BitVec 1 := Scalar.cmpi .slt v527 c0_i32_424
  let c0_i32_425 : BitVec 32 := 0#32
  let v530 : BitVec 1 := Scalar.cmpi .slt v526 c0_i32_425
  let v531 : BitVec 1 := Scalar.xori v529 v530
  let c0_i32_423 : BitVec 32 := 0#32
  let v528 : BitVec 1 := Scalar.cmpi .ne v527 c0_i32_423
  let v532 : BitVec 1 := Scalar.andi v531 v528
  let v533 : BitVec 32 := Scalar.addi v527 v526
  let v534 : BitVec 32 := Scalar.select v532 v533 v527
  let c1_i32_430 : BitVec 32 := 1#32
  let v536 : BitVec 32 := Scalar.muli v534 c1_i32_430
  let v537 : BitVec 32 := Scalar.addi c0_i32_431 v536
  v537.toNat
def k0_dev52 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_435 : BitVec 32 := 20#32
  let v545 : BitVec 32 := Scalar.addi v2 c20_i32_435
  let c32_i32_436 : BitVec 32 := 32#32
  let c0_i32_437 : BitVec 32 := 0#32
  let v546 : BitVec 1 := Scalar.cmpi .eq c32_i32_436 c0_i32_437
  let c1_i32_438 : BitVec 32 := 1#32
  let v547 : BitVec 32 := Scalar.select v546 c1_i32_438 c32_i32_436
  let v548 : BitVec 32 := Scalar.remsi v545 v547
  let c0_i32_440 : BitVec 32 := 0#32
  let v550 : BitVec 1 := Scalar.cmpi .slt v548 c0_i32_440
  let c0_i32_441 : BitVec 32 := 0#32
  let v551 : BitVec 1 := Scalar.cmpi .slt v547 c0_i32_441
  let v552 : BitVec 1 := Scalar.xori v550 v551
  let c0_i32_439 : BitVec 32 := 0#32
  let v549 : BitVec 1 := Scalar.cmpi .ne v548 c0_i32_439
  let v553 : BitVec 1 := Scalar.andi v552 v549
  let v554 : BitVec 32 := Scalar.addi v548 v547
  let v555 : BitVec 32 := Scalar.select v553 v554 v548
  let c1_i32_446 : BitVec 32 := 1#32
  let v557 : BitVec 32 := Scalar.muli v555 c1_i32_446
  let v558 : BitVec 32 := Scalar.addi c0_i32_447 v557
  v558.toNat
def k0_dev53 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_451 : BitVec 32 := 21#32
  let v566 : BitVec 32 := Scalar.addi v2 c21_i32_451
  let c32_i32_452 : BitVec 32 := 32#32
  let c0_i32_453 : BitVec 32 := 0#32
  let v567 : BitVec 1 := Scalar.cmpi .eq c32_i32_452 c0_i32_453
  let c1_i32_454 : BitVec 32 := 1#32
  let v568 : BitVec 32 := Scalar.select v567 c1_i32_454 c32_i32_452
  let v569 : BitVec 32 := Scalar.remsi v566 v568
  let c0_i32_456 : BitVec 32 := 0#32
  let v571 : BitVec 1 := Scalar.cmpi .slt v569 c0_i32_456
  let c0_i32_457 : BitVec 32 := 0#32
  let v572 : BitVec 1 := Scalar.cmpi .slt v568 c0_i32_457
  let v573 : BitVec 1 := Scalar.xori v571 v572
  let c0_i32_455 : BitVec 32 := 0#32
  let v570 : BitVec 1 := Scalar.cmpi .ne v569 c0_i32_455
  let v574 : BitVec 1 := Scalar.andi v573 v570
  let v575 : BitVec 32 := Scalar.addi v569 v568
  let v576 : BitVec 32 := Scalar.select v574 v575 v569
  let c1_i32_462 : BitVec 32 := 1#32
  let v578 : BitVec 32 := Scalar.muli v576 c1_i32_462
  let v579 : BitVec 32 := Scalar.addi c0_i32_463 v578
  v579.toNat
def k0_dev54 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_467 : BitVec 32 := 22#32
  let v587 : BitVec 32 := Scalar.addi v2 c22_i32_467
  let c32_i32_468 : BitVec 32 := 32#32
  let c0_i32_469 : BitVec 32 := 0#32
  let v588 : BitVec 1 := Scalar.cmpi .eq c32_i32_468 c0_i32_469
  let c1_i32_470 : BitVec 32 := 1#32
  let v589 : BitVec 32 := Scalar.select v588 c1_i32_470 c32_i32_468
  let v590 : BitVec 32 := Scalar.remsi v587 v589
  let c0_i32_472 : BitVec 32 := 0#32
  let v592 : BitVec 1 := Scalar.cmpi .slt v590 c0_i32_472
  let c0_i32_473 : BitVec 32 := 0#32
  let v593 : BitVec 1 := Scalar.cmpi .slt v589 c0_i32_473
  let v594 : BitVec 1 := Scalar.xori v592 v593
  let c0_i32_471 : BitVec 32 := 0#32
  let v591 : BitVec 1 := Scalar.cmpi .ne v590 c0_i32_471
  let v595 : BitVec 1 := Scalar.andi v594 v591
  let v596 : BitVec 32 := Scalar.addi v590 v589
  let v597 : BitVec 32 := Scalar.select v595 v596 v590
  let c1_i32_478 : BitVec 32 := 1#32
  let v599 : BitVec 32 := Scalar.muli v597 c1_i32_478
  let v600 : BitVec 32 := Scalar.addi c0_i32_479 v599
  v600.toNat
def k0_dev55 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_483 : BitVec 32 := 23#32
  let v608 : BitVec 32 := Scalar.addi v2 c23_i32_483
  let c32_i32_484 : BitVec 32 := 32#32
  let c0_i32_485 : BitVec 32 := 0#32
  let v609 : BitVec 1 := Scalar.cmpi .eq c32_i32_484 c0_i32_485
  let c1_i32_486 : BitVec 32 := 1#32
  let v610 : BitVec 32 := Scalar.select v609 c1_i32_486 c32_i32_484
  let v611 : BitVec 32 := Scalar.remsi v608 v610
  let c0_i32_488 : BitVec 32 := 0#32
  let v613 : BitVec 1 := Scalar.cmpi .slt v611 c0_i32_488
  let c0_i32_489 : BitVec 32 := 0#32
  let v614 : BitVec 1 := Scalar.cmpi .slt v610 c0_i32_489
  let v615 : BitVec 1 := Scalar.xori v613 v614
  let c0_i32_487 : BitVec 32 := 0#32
  let v612 : BitVec 1 := Scalar.cmpi .ne v611 c0_i32_487
  let v616 : BitVec 1 := Scalar.andi v615 v612
  let v617 : BitVec 32 := Scalar.addi v611 v610
  let v618 : BitVec 32 := Scalar.select v616 v617 v611
  let c1_i32_494 : BitVec 32 := 1#32
  let v620 : BitVec 32 := Scalar.muli v618 c1_i32_494
  let v621 : BitVec 32 := Scalar.addi c0_i32_495 v620
  v621.toNat
def k0_dev56 (d0 : Dev nD) : Nat :=
  let c0_i32_511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_499 : BitVec 32 := 24#32
  let v629 : BitVec 32 := Scalar.addi v2 c24_i32_499
  let c32_i32_500 : BitVec 32 := 32#32
  let c0_i32_501 : BitVec 32 := 0#32
  let v630 : BitVec 1 := Scalar.cmpi .eq c32_i32_500 c0_i32_501
  let c1_i32_502 : BitVec 32 := 1#32
  let v631 : BitVec 32 := Scalar.select v630 c1_i32_502 c32_i32_500
  let v632 : BitVec 32 := Scalar.remsi v629 v631
  let c0_i32_504 : BitVec 32 := 0#32
  let v634 : BitVec 1 := Scalar.cmpi .slt v632 c0_i32_504
  let c0_i32_505 : BitVec 32 := 0#32
  let v635 : BitVec 1 := Scalar.cmpi .slt v631 c0_i32_505
  let v636 : BitVec 1 := Scalar.xori v634 v635
  let c0_i32_503 : BitVec 32 := 0#32
  let v633 : BitVec 1 := Scalar.cmpi .ne v632 c0_i32_503
  let v637 : BitVec 1 := Scalar.andi v636 v633
  let v638 : BitVec 32 := Scalar.addi v632 v631
  let v639 : BitVec 32 := Scalar.select v637 v638 v632
  let c1_i32_510 : BitVec 32 := 1#32
  let v641 : BitVec 32 := Scalar.muli v639 c1_i32_510
  let v642 : BitVec 32 := Scalar.addi c0_i32_511 v641
  v642.toNat
def k0_dev57 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_515 : BitVec 32 := 25#32
  let v650 : BitVec 32 := Scalar.addi v2 c25_i32_515
  let c32_i32_516 : BitVec 32 := 32#32
  let c0_i32_517 : BitVec 32 := 0#32
  let v651 : BitVec 1 := Scalar.cmpi .eq c32_i32_516 c0_i32_517
  let c1_i32_518 : BitVec 32 := 1#32
  let v652 : BitVec 32 := Scalar.select v651 c1_i32_518 c32_i32_516
  let v653 : BitVec 32 := Scalar.remsi v650 v652
  let c0_i32_520 : BitVec 32 := 0#32
  let v655 : BitVec 1 := Scalar.cmpi .slt v653 c0_i32_520
  let c0_i32_521 : BitVec 32 := 0#32
  let v656 : BitVec 1 := Scalar.cmpi .slt v652 c0_i32_521
  let v657 : BitVec 1 := Scalar.xori v655 v656
  let c0_i32_519 : BitVec 32 := 0#32
  let v654 : BitVec 1 := Scalar.cmpi .ne v653 c0_i32_519
  let v658 : BitVec 1 := Scalar.andi v657 v654
  let v659 : BitVec 32 := Scalar.addi v653 v652
  let v660 : BitVec 32 := Scalar.select v658 v659 v653
  let c1_i32_526 : BitVec 32 := 1#32
  let v662 : BitVec 32 := Scalar.muli v660 c1_i32_526
  let v663 : BitVec 32 := Scalar.addi c0_i32_527 v662
  v663.toNat
def k0_dev58 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_531 : BitVec 32 := 26#32
  let v671 : BitVec 32 := Scalar.addi v2 c26_i32_531
  let c32_i32_532 : BitVec 32 := 32#32
  let c0_i32_533 : BitVec 32 := 0#32
  let v672 : BitVec 1 := Scalar.cmpi .eq c32_i32_532 c0_i32_533
  let c1_i32_534 : BitVec 32 := 1#32
  let v673 : BitVec 32 := Scalar.select v672 c1_i32_534 c32_i32_532
  let v674 : BitVec 32 := Scalar.remsi v671 v673
  let c0_i32_536 : BitVec 32 := 0#32
  let v676 : BitVec 1 := Scalar.cmpi .slt v674 c0_i32_536
  let c0_i32_537 : BitVec 32 := 0#32
  let v677 : BitVec 1 := Scalar.cmpi .slt v673 c0_i32_537
  let v678 : BitVec 1 := Scalar.xori v676 v677
  let c0_i32_535 : BitVec 32 := 0#32
  let v675 : BitVec 1 := Scalar.cmpi .ne v674 c0_i32_535
  let v679 : BitVec 1 := Scalar.andi v678 v675
  let v680 : BitVec 32 := Scalar.addi v674 v673
  let v681 : BitVec 32 := Scalar.select v679 v680 v674
  let c1_i32_542 : BitVec 32 := 1#32
  let v683 : BitVec 32 := Scalar.muli v681 c1_i32_542
  let v684 : BitVec 32 := Scalar.addi c0_i32_543 v683
  v684.toNat
def k0_dev59 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_547 : BitVec 32 := 27#32
  let v692 : BitVec 32 := Scalar.addi v2 c27_i32_547
  let c32_i32_548 : BitVec 32 := 32#32
  let c0_i32_549 : BitVec 32 := 0#32
  let v693 : BitVec 1 := Scalar.cmpi .eq c32_i32_548 c0_i32_549
  let c1_i32_550 : BitVec 32 := 1#32
  let v694 : BitVec 32 := Scalar.select v693 c1_i32_550 c32_i32_548
  let v695 : BitVec 32 := Scalar.remsi v692 v694
  let c0_i32_552 : BitVec 32 := 0#32
  let v697 : BitVec 1 := Scalar.cmpi .slt v695 c0_i32_552
  let c0_i32_553 : BitVec 32 := 0#32
  let v698 : BitVec 1 := Scalar.cmpi .slt v694 c0_i32_553
  let v699 : BitVec 1 := Scalar.xori v697 v698
  let c0_i32_551 : BitVec 32 := 0#32
  let v696 : BitVec 1 := Scalar.cmpi .ne v695 c0_i32_551
  let v700 : BitVec 1 := Scalar.andi v699 v696
  let v701 : BitVec 32 := Scalar.addi v695 v694
  let v702 : BitVec 32 := Scalar.select v700 v701 v695
  let c1_i32_558 : BitVec 32 := 1#32
  let v704 : BitVec 32 := Scalar.muli v702 c1_i32_558
  let v705 : BitVec 32 := Scalar.addi c0_i32_559 v704
  v705.toNat
def k0_dev60 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_563 : BitVec 32 := 28#32
  let v713 : BitVec 32 := Scalar.addi v2 c28_i32_563
  let c32_i32_564 : BitVec 32 := 32#32
  let c0_i32_565 : BitVec 32 := 0#32
  let v714 : BitVec 1 := Scalar.cmpi .eq c32_i32_564 c0_i32_565
  let c1_i32_566 : BitVec 32 := 1#32
  let v715 : BitVec 32 := Scalar.select v714 c1_i32_566 c32_i32_564
  let v716 : BitVec 32 := Scalar.remsi v713 v715
  let c0_i32_568 : BitVec 32 := 0#32
  let v718 : BitVec 1 := Scalar.cmpi .slt v716 c0_i32_568
  let c0_i32_569 : BitVec 32 := 0#32
  let v719 : BitVec 1 := Scalar.cmpi .slt v715 c0_i32_569
  let v720 : BitVec 1 := Scalar.xori v718 v719
  let c0_i32_567 : BitVec 32 := 0#32
  let v717 : BitVec 1 := Scalar.cmpi .ne v716 c0_i32_567
  let v721 : BitVec 1 := Scalar.andi v720 v717
  let v722 : BitVec 32 := Scalar.addi v716 v715
  let v723 : BitVec 32 := Scalar.select v721 v722 v716
  let c1_i32_574 : BitVec 32 := 1#32
  let v725 : BitVec 32 := Scalar.muli v723 c1_i32_574
  let v726 : BitVec 32 := Scalar.addi c0_i32_575 v725
  v726.toNat
def k0_dev61 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_579 : BitVec 32 := 29#32
  let v734 : BitVec 32 := Scalar.addi v2 c29_i32_579
  let c32_i32_580 : BitVec 32 := 32#32
  let c0_i32_581 : BitVec 32 := 0#32
  let v735 : BitVec 1 := Scalar.cmpi .eq c32_i32_580 c0_i32_581
  let c1_i32_582 : BitVec 32 := 1#32
  let v736 : BitVec 32 := Scalar.select v735 c1_i32_582 c32_i32_580
  let v737 : BitVec 32 := Scalar.remsi v734 v736
  let c0_i32_584 : BitVec 32 := 0#32
  let v739 : BitVec 1 := Scalar.cmpi .slt v737 c0_i32_584
  let c0_i32_585 : BitVec 32 := 0#32
  let v740 : BitVec 1 := Scalar.cmpi .slt v736 c0_i32_585
  let v741 : BitVec 1 := Scalar.xori v739 v740
  let c0_i32_583 : BitVec 32 := 0#32
  let v738 : BitVec 1 := Scalar.cmpi .ne v737 c0_i32_583
  let v742 : BitVec 1 := Scalar.andi v741 v738
  let v743 : BitVec 32 := Scalar.addi v737 v736
  let v744 : BitVec 32 := Scalar.select v742 v743 v737
  let c1_i32_590 : BitVec 32 := 1#32
  let v746 : BitVec 32 := Scalar.muli v744 c1_i32_590
  let v747 : BitVec 32 := Scalar.addi c0_i32_591 v746
  v747.toNat
def k0_dev62 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_595 : BitVec 32 := 30#32
  let v755 : BitVec 32 := Scalar.addi v2 c30_i32_595
  let c32_i32_596 : BitVec 32 := 32#32
  let c0_i32_597 : BitVec 32 := 0#32
  let v756 : BitVec 1 := Scalar.cmpi .eq c32_i32_596 c0_i32_597
  let c1_i32_598 : BitVec 32 := 1#32
  let v757 : BitVec 32 := Scalar.select v756 c1_i32_598 c32_i32_596
  let v758 : BitVec 32 := Scalar.remsi v755 v757
  let c0_i32_600 : BitVec 32 := 0#32
  let v760 : BitVec 1 := Scalar.cmpi .slt v758 c0_i32_600
  let c0_i32_601 : BitVec 32 := 0#32
  let v761 : BitVec 1 := Scalar.cmpi .slt v757 c0_i32_601
  let v762 : BitVec 1 := Scalar.xori v760 v761
  let c0_i32_599 : BitVec 32 := 0#32
  let v759 : BitVec 1 := Scalar.cmpi .ne v758 c0_i32_599
  let v763 : BitVec 1 := Scalar.andi v762 v759
  let v764 : BitVec 32 := Scalar.addi v758 v757
  let v765 : BitVec 32 := Scalar.select v763 v764 v758
  let c1_i32_606 : BitVec 32 := 1#32
  let v767 : BitVec 32 := Scalar.muli v765 c1_i32_606
  let v768 : BitVec 32 := Scalar.addi c0_i32_607 v767
  v768.toNat
def k0_dev63 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_611 : BitVec 32 := 31#32
  let v776 : BitVec 32 := Scalar.addi v2 c31_i32_611
  let c32_i32_612 : BitVec 32 := 32#32
  let c0_i32_613 : BitVec 32 := 0#32
  let v777 : BitVec 1 := Scalar.cmpi .eq c32_i32_612 c0_i32_613
  let c1_i32_614 : BitVec 32 := 1#32
  let v778 : BitVec 32 := Scalar.select v777 c1_i32_614 c32_i32_612
  let v779 : BitVec 32 := Scalar.remsi v776 v778
  let c0_i32_616 : BitVec 32 := 0#32
  let v781 : BitVec 1 := Scalar.cmpi .slt v779 c0_i32_616
  let c0_i32_617 : BitVec 32 := 0#32
  let v782 : BitVec 1 := Scalar.cmpi .slt v778 c0_i32_617
  let v783 : BitVec 1 := Scalar.xori v781 v782
  let c0_i32_615 : BitVec 32 := 0#32
  let v780 : BitVec 1 := Scalar.cmpi .ne v779 c0_i32_615
  let v784 : BitVec 1 := Scalar.andi v783 v780
  let v785 : BitVec 32 := Scalar.addi v779 v778
  let v786 : BitVec 32 := Scalar.select v784 v785 v779
  let c1_i32_622 : BitVec 32 := 1#32
  let v788 : BitVec 32 := Scalar.muli v786 c1_i32_622
  let v789 : BitVec 32 := Scalar.addi c0_i32_623 v788
  v789.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1092 : BitVec 32 := 16#32
  let v1169 : BitVec 32 := Scalar.muli v2 c16_i32_1092
  let v1170 : Index := Scalar.indexCast v1169
  let c0_1093 : Index := 0#32
  ![v1170.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1110 : BitVec 32 := 16#32
  let v1192 : BitVec 32 := Scalar.muli v2 c16_i32_1110
  let c0_i32_1115 : BitVec 32 := 0#32
  ![v1192.toNat, 0]
def k0_dev64 (d0 : Dev nD) : Nat :=
  let c0_i32_1114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1103 : BitVec 32 := 1#32
  let v1181 : BitVec 32 := Scalar.addi v2 c1_i32_1103
  let c32_i32_1104 : BitVec 32 := 32#32
  let c0_i32_1105 : BitVec 32 := 0#32
  let v1182 : BitVec 1 := Scalar.cmpi .eq c32_i32_1104 c0_i32_1105
  let c1_i32_1106 : BitVec 32 := 1#32
  let v1183 : BitVec 32 := Scalar.select v1182 c1_i32_1106 c32_i32_1104
  let v1184 : BitVec 32 := Scalar.remsi v1181 v1183
  let c0_i32_1108 : BitVec 32 := 0#32
  let v1186 : BitVec 1 := Scalar.cmpi .slt v1184 c0_i32_1108
  let c0_i32_1109 : BitVec 32 := 0#32
  let v1187 : BitVec 1 := Scalar.cmpi .slt v1183 c0_i32_1109
  let v1188 : BitVec 1 := Scalar.xori v1186 v1187
  let c0_i32_1107 : BitVec 32 := 0#32
  let v1185 : BitVec 1 := Scalar.cmpi .ne v1184 c0_i32_1107
  let v1189 : BitVec 1 := Scalar.andi v1188 v1185
  let v1190 : BitVec 32 := Scalar.addi v1184 v1183
  let v1191 : BitVec 32 := Scalar.select v1189 v1190 v1184
  let c1_i32_1113 : BitVec 32 := 1#32
  let v1193 : BitVec 32 := Scalar.muli v1191 c1_i32_1113
  let v1194 : BitVec 32 := Scalar.addi c0_i32_1114 v1193
  v1194.toNat
def k0_dev65 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1116 : BitVec 32 := 2#32
  let v1200 : BitVec 32 := Scalar.addi v2 c2_i32_1116
  let c32_i32_1117 : BitVec 32 := 32#32
  let c0_i32_1118 : BitVec 32 := 0#32
  let v1201 : BitVec 1 := Scalar.cmpi .eq c32_i32_1117 c0_i32_1118
  let c1_i32_1119 : BitVec 32 := 1#32
  let v1202 : BitVec 32 := Scalar.select v1201 c1_i32_1119 c32_i32_1117
  let v1203 : BitVec 32 := Scalar.remsi v1200 v1202
  let c0_i32_1121 : BitVec 32 := 0#32
  let v1205 : BitVec 1 := Scalar.cmpi .slt v1203 c0_i32_1121
  let c0_i32_1122 : BitVec 32 := 0#32
  let v1206 : BitVec 1 := Scalar.cmpi .slt v1202 c0_i32_1122
  let v1207 : BitVec 1 := Scalar.xori v1205 v1206
  let c0_i32_1120 : BitVec 32 := 0#32
  let v1204 : BitVec 1 := Scalar.cmpi .ne v1203 c0_i32_1120
  let v1208 : BitVec 1 := Scalar.andi v1207 v1204
  let v1209 : BitVec 32 := Scalar.addi v1203 v1202
  let v1210 : BitVec 32 := Scalar.select v1208 v1209 v1203
  let c1_i32_1126 : BitVec 32 := 1#32
  let v1212 : BitVec 32 := Scalar.muli v1210 c1_i32_1126
  let v1213 : BitVec 32 := Scalar.addi c0_i32_1127 v1212
  v1213.toNat
def k0_dev66 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1129 : BitVec 32 := 3#32
  let v1219 : BitVec 32 := Scalar.addi v2 c3_i32_1129
  let c32_i32_1130 : BitVec 32 := 32#32
  let c0_i32_1131 : BitVec 32 := 0#32
  let v1220 : BitVec 1 := Scalar.cmpi .eq c32_i32_1130 c0_i32_1131
  let c1_i32_1132 : BitVec 32 := 1#32
  let v1221 : BitVec 32 := Scalar.select v1220 c1_i32_1132 c32_i32_1130
  let v1222 : BitVec 32 := Scalar.remsi v1219 v1221
  let c0_i32_1134 : BitVec 32 := 0#32
  let v1224 : BitVec 1 := Scalar.cmpi .slt v1222 c0_i32_1134
  let c0_i32_1135 : BitVec 32 := 0#32
  let v1225 : BitVec 1 := Scalar.cmpi .slt v1221 c0_i32_1135
  let v1226 : BitVec 1 := Scalar.xori v1224 v1225
  let c0_i32_1133 : BitVec 32 := 0#32
  let v1223 : BitVec 1 := Scalar.cmpi .ne v1222 c0_i32_1133
  let v1227 : BitVec 1 := Scalar.andi v1226 v1223
  let v1228 : BitVec 32 := Scalar.addi v1222 v1221
  let v1229 : BitVec 32 := Scalar.select v1227 v1228 v1222
  let c1_i32_1139 : BitVec 32 := 1#32
  let v1231 : BitVec 32 := Scalar.muli v1229 c1_i32_1139
  let v1232 : BitVec 32 := Scalar.addi c0_i32_1140 v1231
  v1232.toNat
def k0_dev67 (d0 : Dev nD) : Nat :=
  let c0_i32_1153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1142 : BitVec 32 := 4#32
  let v1238 : BitVec 32 := Scalar.addi v2 c4_i32_1142
  let c32_i32_1143 : BitVec 32 := 32#32
  let c0_i32_1144 : BitVec 32 := 0#32
  let v1239 : BitVec 1 := Scalar.cmpi .eq c32_i32_1143 c0_i32_1144
  let c1_i32_1145 : BitVec 32 := 1#32
  let v1240 : BitVec 32 := Scalar.select v1239 c1_i32_1145 c32_i32_1143
  let v1241 : BitVec 32 := Scalar.remsi v1238 v1240
  let c0_i32_1147 : BitVec 32 := 0#32
  let v1243 : BitVec 1 := Scalar.cmpi .slt v1241 c0_i32_1147
  let c0_i32_1148 : BitVec 32 := 0#32
  let v1244 : BitVec 1 := Scalar.cmpi .slt v1240 c0_i32_1148
  let v1245 : BitVec 1 := Scalar.xori v1243 v1244
  let c0_i32_1146 : BitVec 32 := 0#32
  let v1242 : BitVec 1 := Scalar.cmpi .ne v1241 c0_i32_1146
  let v1246 : BitVec 1 := Scalar.andi v1245 v1242
  let v1247 : BitVec 32 := Scalar.addi v1241 v1240
  let v1248 : BitVec 32 := Scalar.select v1246 v1247 v1241
  let c1_i32_1152 : BitVec 32 := 1#32
  let v1250 : BitVec 32 := Scalar.muli v1248 c1_i32_1152
  let v1251 : BitVec 32 := Scalar.addi c0_i32_1153 v1250
  v1251.toNat
def k0_dev68 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1155 : BitVec 32 := 5#32
  let v1257 : BitVec 32 := Scalar.addi v2 c5_i32_1155
  let c32_i32_1156 : BitVec 32 := 32#32
  let c0_i32_1157 : BitVec 32 := 0#32
  let v1258 : BitVec 1 := Scalar.cmpi .eq c32_i32_1156 c0_i32_1157
  let c1_i32_1158 : BitVec 32 := 1#32
  let v1259 : BitVec 32 := Scalar.select v1258 c1_i32_1158 c32_i32_1156
  let v1260 : BitVec 32 := Scalar.remsi v1257 v1259
  let c0_i32_1160 : BitVec 32 := 0#32
  let v1262 : BitVec 1 := Scalar.cmpi .slt v1260 c0_i32_1160
  let c0_i32_1161 : BitVec 32 := 0#32
  let v1263 : BitVec 1 := Scalar.cmpi .slt v1259 c0_i32_1161
  let v1264 : BitVec 1 := Scalar.xori v1262 v1263
  let c0_i32_1159 : BitVec 32 := 0#32
  let v1261 : BitVec 1 := Scalar.cmpi .ne v1260 c0_i32_1159
  let v1265 : BitVec 1 := Scalar.andi v1264 v1261
  let v1266 : BitVec 32 := Scalar.addi v1260 v1259
  let v1267 : BitVec 32 := Scalar.select v1265 v1266 v1260
  let c1_i32_1165 : BitVec 32 := 1#32
  let v1269 : BitVec 32 := Scalar.muli v1267 c1_i32_1165
  let v1270 : BitVec 32 := Scalar.addi c0_i32_1166 v1269
  v1270.toNat
def k0_dev69 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1168 : BitVec 32 := 6#32
  let v1276 : BitVec 32 := Scalar.addi v2 c6_i32_1168
  let c32_i32_1169 : BitVec 32 := 32#32
  let c0_i32_1170 : BitVec 32 := 0#32
  let v1277 : BitVec 1 := Scalar.cmpi .eq c32_i32_1169 c0_i32_1170
  let c1_i32_1171 : BitVec 32 := 1#32
  let v1278 : BitVec 32 := Scalar.select v1277 c1_i32_1171 c32_i32_1169
  let v1279 : BitVec 32 := Scalar.remsi v1276 v1278
  let c0_i32_1173 : BitVec 32 := 0#32
  let v1281 : BitVec 1 := Scalar.cmpi .slt v1279 c0_i32_1173
  let c0_i32_1174 : BitVec 32 := 0#32
  let v1282 : BitVec 1 := Scalar.cmpi .slt v1278 c0_i32_1174
  let v1283 : BitVec 1 := Scalar.xori v1281 v1282
  let c0_i32_1172 : BitVec 32 := 0#32
  let v1280 : BitVec 1 := Scalar.cmpi .ne v1279 c0_i32_1172
  let v1284 : BitVec 1 := Scalar.andi v1283 v1280
  let v1285 : BitVec 32 := Scalar.addi v1279 v1278
  let v1286 : BitVec 32 := Scalar.select v1284 v1285 v1279
  let c1_i32_1178 : BitVec 32 := 1#32
  let v1288 : BitVec 32 := Scalar.muli v1286 c1_i32_1178
  let v1289 : BitVec 32 := Scalar.addi c0_i32_1179 v1288
  v1289.toNat
def k0_dev70 (d0 : Dev nD) : Nat :=
  let c0_i32_1192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1181 : BitVec 32 := 7#32
  let v1295 : BitVec 32 := Scalar.addi v2 c7_i32_1181
  let c32_i32_1182 : BitVec 32 := 32#32
  let c0_i32_1183 : BitVec 32 := 0#32
  let v1296 : BitVec 1 := Scalar.cmpi .eq c32_i32_1182 c0_i32_1183
  let c1_i32_1184 : BitVec 32 := 1#32
  let v1297 : BitVec 32 := Scalar.select v1296 c1_i32_1184 c32_i32_1182
  let v1298 : BitVec 32 := Scalar.remsi v1295 v1297
  let c0_i32_1186 : BitVec 32 := 0#32
  let v1300 : BitVec 1 := Scalar.cmpi .slt v1298 c0_i32_1186
  let c0_i32_1187 : BitVec 32 := 0#32
  let v1301 : BitVec 1 := Scalar.cmpi .slt v1297 c0_i32_1187
  let v1302 : BitVec 1 := Scalar.xori v1300 v1301
  let c0_i32_1185 : BitVec 32 := 0#32
  let v1299 : BitVec 1 := Scalar.cmpi .ne v1298 c0_i32_1185
  let v1303 : BitVec 1 := Scalar.andi v1302 v1299
  let v1304 : BitVec 32 := Scalar.addi v1298 v1297
  let v1305 : BitVec 32 := Scalar.select v1303 v1304 v1298
  let c1_i32_1191 : BitVec 32 := 1#32
  let v1307 : BitVec 32 := Scalar.muli v1305 c1_i32_1191
  let v1308 : BitVec 32 := Scalar.addi c0_i32_1192 v1307
  v1308.toNat
def k0_dev71 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1194 : BitVec 32 := 8#32
  let v1314 : BitVec 32 := Scalar.addi v2 c8_i32_1194
  let c32_i32_1195 : BitVec 32 := 32#32
  let c0_i32_1196 : BitVec 32 := 0#32
  let v1315 : BitVec 1 := Scalar.cmpi .eq c32_i32_1195 c0_i32_1196
  let c1_i32_1197 : BitVec 32 := 1#32
  let v1316 : BitVec 32 := Scalar.select v1315 c1_i32_1197 c32_i32_1195
  let v1317 : BitVec 32 := Scalar.remsi v1314 v1316
  let c0_i32_1199 : BitVec 32 := 0#32
  let v1319 : BitVec 1 := Scalar.cmpi .slt v1317 c0_i32_1199
  let c0_i32_1200 : BitVec 32 := 0#32
  let v1320 : BitVec 1 := Scalar.cmpi .slt v1316 c0_i32_1200
  let v1321 : BitVec 1 := Scalar.xori v1319 v1320
  let c0_i32_1198 : BitVec 32 := 0#32
  let v1318 : BitVec 1 := Scalar.cmpi .ne v1317 c0_i32_1198
  let v1322 : BitVec 1 := Scalar.andi v1321 v1318
  let v1323 : BitVec 32 := Scalar.addi v1317 v1316
  let v1324 : BitVec 32 := Scalar.select v1322 v1323 v1317
  let c1_i32_1204 : BitVec 32 := 1#32
  let v1326 : BitVec 32 := Scalar.muli v1324 c1_i32_1204
  let v1327 : BitVec 32 := Scalar.addi c0_i32_1205 v1326
  v1327.toNat
def k0_dev72 (d0 : Dev nD) : Nat :=
  let c0_i32_1218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1207 : BitVec 32 := 9#32
  let v1333 : BitVec 32 := Scalar.addi v2 c9_i32_1207
  let c32_i32_1208 : BitVec 32 := 32#32
  let c0_i32_1209 : BitVec 32 := 0#32
  let v1334 : BitVec 1 := Scalar.cmpi .eq c32_i32_1208 c0_i32_1209
  let c1_i32_1210 : BitVec 32 := 1#32
  let v1335 : BitVec 32 := Scalar.select v1334 c1_i32_1210 c32_i32_1208
  let v1336 : BitVec 32 := Scalar.remsi v1333 v1335
  let c0_i32_1212 : BitVec 32 := 0#32
  let v1338 : BitVec 1 := Scalar.cmpi .slt v1336 c0_i32_1212
  let c0_i32_1213 : BitVec 32 := 0#32
  let v1339 : BitVec 1 := Scalar.cmpi .slt v1335 c0_i32_1213
  let v1340 : BitVec 1 := Scalar.xori v1338 v1339
  let c0_i32_1211 : BitVec 32 := 0#32
  let v1337 : BitVec 1 := Scalar.cmpi .ne v1336 c0_i32_1211
  let v1341 : BitVec 1 := Scalar.andi v1340 v1337
  let v1342 : BitVec 32 := Scalar.addi v1336 v1335
  let v1343 : BitVec 32 := Scalar.select v1341 v1342 v1336
  let c1_i32_1217 : BitVec 32 := 1#32
  let v1345 : BitVec 32 := Scalar.muli v1343 c1_i32_1217
  let v1346 : BitVec 32 := Scalar.addi c0_i32_1218 v1345
  v1346.toNat
def k0_dev73 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1220 : BitVec 32 := 10#32
  let v1352 : BitVec 32 := Scalar.addi v2 c10_i32_1220
  let c32_i32_1221 : BitVec 32 := 32#32
  let c0_i32_1222 : BitVec 32 := 0#32
  let v1353 : BitVec 1 := Scalar.cmpi .eq c32_i32_1221 c0_i32_1222
  let c1_i32_1223 : BitVec 32 := 1#32
  let v1354 : BitVec 32 := Scalar.select v1353 c1_i32_1223 c32_i32_1221
  let v1355 : BitVec 32 := Scalar.remsi v1352 v1354
  let c0_i32_1225 : BitVec 32 := 0#32
  let v1357 : BitVec 1 := Scalar.cmpi .slt v1355 c0_i32_1225
  let c0_i32_1226 : BitVec 32 := 0#32
  let v1358 : BitVec 1 := Scalar.cmpi .slt v1354 c0_i32_1226
  let v1359 : BitVec 1 := Scalar.xori v1357 v1358
  let c0_i32_1224 : BitVec 32 := 0#32
  let v1356 : BitVec 1 := Scalar.cmpi .ne v1355 c0_i32_1224
  let v1360 : BitVec 1 := Scalar.andi v1359 v1356
  let v1361 : BitVec 32 := Scalar.addi v1355 v1354
  let v1362 : BitVec 32 := Scalar.select v1360 v1361 v1355
  let c1_i32_1230 : BitVec 32 := 1#32
  let v1364 : BitVec 32 := Scalar.muli v1362 c1_i32_1230
  let v1365 : BitVec 32 := Scalar.addi c0_i32_1231 v1364
  v1365.toNat
def k0_dev74 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1233 : BitVec 32 := 11#32
  let v1371 : BitVec 32 := Scalar.addi v2 c11_i32_1233
  let c32_i32_1234 : BitVec 32 := 32#32
  let c0_i32_1235 : BitVec 32 := 0#32
  let v1372 : BitVec 1 := Scalar.cmpi .eq c32_i32_1234 c0_i32_1235
  let c1_i32_1236 : BitVec 32 := 1#32
  let v1373 : BitVec 32 := Scalar.select v1372 c1_i32_1236 c32_i32_1234
  let v1374 : BitVec 32 := Scalar.remsi v1371 v1373
  let c0_i32_1238 : BitVec 32 := 0#32
  let v1376 : BitVec 1 := Scalar.cmpi .slt v1374 c0_i32_1238
  let c0_i32_1239 : BitVec 32 := 0#32
  let v1377 : BitVec 1 := Scalar.cmpi .slt v1373 c0_i32_1239
  let v1378 : BitVec 1 := Scalar.xori v1376 v1377
  let c0_i32_1237 : BitVec 32 := 0#32
  let v1375 : BitVec 1 := Scalar.cmpi .ne v1374 c0_i32_1237
  let v1379 : BitVec 1 := Scalar.andi v1378 v1375
  let v1380 : BitVec 32 := Scalar.addi v1374 v1373
  let v1381 : BitVec 32 := Scalar.select v1379 v1380 v1374
  let c1_i32_1243 : BitVec 32 := 1#32
  let v1383 : BitVec 32 := Scalar.muli v1381 c1_i32_1243
  let v1384 : BitVec 32 := Scalar.addi c0_i32_1244 v1383
  v1384.toNat
def k0_dev75 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1246 : BitVec 32 := 12#32
  let v1390 : BitVec 32 := Scalar.addi v2 c12_i32_1246
  let c32_i32_1247 : BitVec 32 := 32#32
  let c0_i32_1248 : BitVec 32 := 0#32
  let v1391 : BitVec 1 := Scalar.cmpi .eq c32_i32_1247 c0_i32_1248
  let c1_i32_1249 : BitVec 32 := 1#32
  let v1392 : BitVec 32 := Scalar.select v1391 c1_i32_1249 c32_i32_1247
  let v1393 : BitVec 32 := Scalar.remsi v1390 v1392
  let c0_i32_1251 : BitVec 32 := 0#32
  let v1395 : BitVec 1 := Scalar.cmpi .slt v1393 c0_i32_1251
  let c0_i32_1252 : BitVec 32 := 0#32
  let v1396 : BitVec 1 := Scalar.cmpi .slt v1392 c0_i32_1252
  let v1397 : BitVec 1 := Scalar.xori v1395 v1396
  let c0_i32_1250 : BitVec 32 := 0#32
  let v1394 : BitVec 1 := Scalar.cmpi .ne v1393 c0_i32_1250
  let v1398 : BitVec 1 := Scalar.andi v1397 v1394
  let v1399 : BitVec 32 := Scalar.addi v1393 v1392
  let v1400 : BitVec 32 := Scalar.select v1398 v1399 v1393
  let c1_i32_1256 : BitVec 32 := 1#32
  let v1402 : BitVec 32 := Scalar.muli v1400 c1_i32_1256
  let v1403 : BitVec 32 := Scalar.addi c0_i32_1257 v1402
  v1403.toNat
def k0_dev76 (d0 : Dev nD) : Nat :=
  let c0_i32_1270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1259 : BitVec 32 := 13#32
  let v1409 : BitVec 32 := Scalar.addi v2 c13_i32_1259
  let c32_i32_1260 : BitVec 32 := 32#32
  let c0_i32_1261 : BitVec 32 := 0#32
  let v1410 : BitVec 1 := Scalar.cmpi .eq c32_i32_1260 c0_i32_1261
  let c1_i32_1262 : BitVec 32 := 1#32
  let v1411 : BitVec 32 := Scalar.select v1410 c1_i32_1262 c32_i32_1260
  let v1412 : BitVec 32 := Scalar.remsi v1409 v1411
  let c0_i32_1264 : BitVec 32 := 0#32
  let v1414 : BitVec 1 := Scalar.cmpi .slt v1412 c0_i32_1264
  let c0_i32_1265 : BitVec 32 := 0#32
  let v1415 : BitVec 1 := Scalar.cmpi .slt v1411 c0_i32_1265
  let v1416 : BitVec 1 := Scalar.xori v1414 v1415
  let c0_i32_1263 : BitVec 32 := 0#32
  let v1413 : BitVec 1 := Scalar.cmpi .ne v1412 c0_i32_1263
  let v1417 : BitVec 1 := Scalar.andi v1416 v1413
  let v1418 : BitVec 32 := Scalar.addi v1412 v1411
  let v1419 : BitVec 32 := Scalar.select v1417 v1418 v1412
  let c1_i32_1269 : BitVec 32 := 1#32
  let v1421 : BitVec 32 := Scalar.muli v1419 c1_i32_1269
  let v1422 : BitVec 32 := Scalar.addi c0_i32_1270 v1421
  v1422.toNat
def k0_dev77 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1272 : BitVec 32 := 14#32
  let v1428 : BitVec 32 := Scalar.addi v2 c14_i32_1272
  let c32_i32_1273 : BitVec 32 := 32#32
  let c0_i32_1274 : BitVec 32 := 0#32
  let v1429 : BitVec 1 := Scalar.cmpi .eq c32_i32_1273 c0_i32_1274
  let c1_i32_1275 : BitVec 32 := 1#32
  let v1430 : BitVec 32 := Scalar.select v1429 c1_i32_1275 c32_i32_1273
  let v1431 : BitVec 32 := Scalar.remsi v1428 v1430
  let c0_i32_1277 : BitVec 32 := 0#32
  let v1433 : BitVec 1 := Scalar.cmpi .slt v1431 c0_i32_1277
  let c0_i32_1278 : BitVec 32 := 0#32
  let v1434 : BitVec 1 := Scalar.cmpi .slt v1430 c0_i32_1278
  let v1435 : BitVec 1 := Scalar.xori v1433 v1434
  let c0_i32_1276 : BitVec 32 := 0#32
  let v1432 : BitVec 1 := Scalar.cmpi .ne v1431 c0_i32_1276
  let v1436 : BitVec 1 := Scalar.andi v1435 v1432
  let v1437 : BitVec 32 := Scalar.addi v1431 v1430
  let v1438 : BitVec 32 := Scalar.select v1436 v1437 v1431
  let c1_i32_1282 : BitVec 32 := 1#32
  let v1440 : BitVec 32 := Scalar.muli v1438 c1_i32_1282
  let v1441 : BitVec 32 := Scalar.addi c0_i32_1283 v1440
  v1441.toNat
def k0_dev78 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1285 : BitVec 32 := 15#32
  let v1447 : BitVec 32 := Scalar.addi v2 c15_i32_1285
  let c32_i32_1286 : BitVec 32 := 32#32
  let c0_i32_1287 : BitVec 32 := 0#32
  let v1448 : BitVec 1 := Scalar.cmpi .eq c32_i32_1286 c0_i32_1287
  let c1_i32_1288 : BitVec 32 := 1#32
  let v1449 : BitVec 32 := Scalar.select v1448 c1_i32_1288 c32_i32_1286
  let v1450 : BitVec 32 := Scalar.remsi v1447 v1449
  let c0_i32_1290 : BitVec 32 := 0#32
  let v1452 : BitVec 1 := Scalar.cmpi .slt v1450 c0_i32_1290
  let c0_i32_1291 : BitVec 32 := 0#32
  let v1453 : BitVec 1 := Scalar.cmpi .slt v1449 c0_i32_1291
  let v1454 : BitVec 1 := Scalar.xori v1452 v1453
  let c0_i32_1289 : BitVec 32 := 0#32
  let v1451 : BitVec 1 := Scalar.cmpi .ne v1450 c0_i32_1289
  let v1455 : BitVec 1 := Scalar.andi v1454 v1451
  let v1456 : BitVec 32 := Scalar.addi v1450 v1449
  let v1457 : BitVec 32 := Scalar.select v1455 v1456 v1450
  let c1_i32_1295 : BitVec 32 := 1#32
  let v1459 : BitVec 32 := Scalar.muli v1457 c1_i32_1295
  let v1460 : BitVec 32 := Scalar.addi c0_i32_1296 v1459
  v1460.toNat
def k0_dev79 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1298 : BitVec 32 := 16#32
  let v1466 : BitVec 32 := Scalar.addi v2 c16_i32_1298
  let c32_i32_1299 : BitVec 32 := 32#32
  let c0_i32_1300 : BitVec 32 := 0#32
  let v1467 : BitVec 1 := Scalar.cmpi .eq c32_i32_1299 c0_i32_1300
  let c1_i32_1301 : BitVec 32 := 1#32
  let v1468 : BitVec 32 := Scalar.select v1467 c1_i32_1301 c32_i32_1299
  let v1469 : BitVec 32 := Scalar.remsi v1466 v1468
  let c0_i32_1303 : BitVec 32 := 0#32
  let v1471 : BitVec 1 := Scalar.cmpi .slt v1469 c0_i32_1303
  let c0_i32_1304 : BitVec 32 := 0#32
  let v1472 : BitVec 1 := Scalar.cmpi .slt v1468 c0_i32_1304
  let v1473 : BitVec 1 := Scalar.xori v1471 v1472
  let c0_i32_1302 : BitVec 32 := 0#32
  let v1470 : BitVec 1 := Scalar.cmpi .ne v1469 c0_i32_1302
  let v1474 : BitVec 1 := Scalar.andi v1473 v1470
  let v1475 : BitVec 32 := Scalar.addi v1469 v1468
  let v1476 : BitVec 32 := Scalar.select v1474 v1475 v1469
  let c1_i32_1308 : BitVec 32 := 1#32
  let v1478 : BitVec 32 := Scalar.muli v1476 c1_i32_1308
  let v1479 : BitVec 32 := Scalar.addi c0_i32_1309 v1478
  v1479.toNat
def k0_dev80 (d0 : Dev nD) : Nat :=
  let c0_i32_1322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1311 : BitVec 32 := 17#32
  let v1485 : BitVec 32 := Scalar.addi v2 c17_i32_1311
  let c32_i32_1312 : BitVec 32 := 32#32
  let c0_i32_1313 : BitVec 32 := 0#32
  let v1486 : BitVec 1 := Scalar.cmpi .eq c32_i32_1312 c0_i32_1313
  let c1_i32_1314 : BitVec 32 := 1#32
  let v1487 : BitVec 32 := Scalar.select v1486 c1_i32_1314 c32_i32_1312
  let v1488 : BitVec 32 := Scalar.remsi v1485 v1487
  let c0_i32_1316 : BitVec 32 := 0#32
  let v1490 : BitVec 1 := Scalar.cmpi .slt v1488 c0_i32_1316
  let c0_i32_1317 : BitVec 32 := 0#32
  let v1491 : BitVec 1 := Scalar.cmpi .slt v1487 c0_i32_1317
  let v1492 : BitVec 1 := Scalar.xori v1490 v1491
  let c0_i32_1315 : BitVec 32 := 0#32
  let v1489 : BitVec 1 := Scalar.cmpi .ne v1488 c0_i32_1315
  let v1493 : BitVec 1 := Scalar.andi v1492 v1489
  let v1494 : BitVec 32 := Scalar.addi v1488 v1487
  let v1495 : BitVec 32 := Scalar.select v1493 v1494 v1488
  let c1_i32_1321 : BitVec 32 := 1#32
  let v1497 : BitVec 32 := Scalar.muli v1495 c1_i32_1321
  let v1498 : BitVec 32 := Scalar.addi c0_i32_1322 v1497
  v1498.toNat
def k0_dev81 (d0 : Dev nD) : Nat :=
  let c0_i32_1335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1324 : BitVec 32 := 18#32
  let v1504 : BitVec 32 := Scalar.addi v2 c18_i32_1324
  let c32_i32_1325 : BitVec 32 := 32#32
  let c0_i32_1326 : BitVec 32 := 0#32
  let v1505 : BitVec 1 := Scalar.cmpi .eq c32_i32_1325 c0_i32_1326
  let c1_i32_1327 : BitVec 32 := 1#32
  let v1506 : BitVec 32 := Scalar.select v1505 c1_i32_1327 c32_i32_1325
  let v1507 : BitVec 32 := Scalar.remsi v1504 v1506
  let c0_i32_1329 : BitVec 32 := 0#32
  let v1509 : BitVec 1 := Scalar.cmpi .slt v1507 c0_i32_1329
  let c0_i32_1330 : BitVec 32 := 0#32
  let v1510 : BitVec 1 := Scalar.cmpi .slt v1506 c0_i32_1330
  let v1511 : BitVec 1 := Scalar.xori v1509 v1510
  let c0_i32_1328 : BitVec 32 := 0#32
  let v1508 : BitVec 1 := Scalar.cmpi .ne v1507 c0_i32_1328
  let v1512 : BitVec 1 := Scalar.andi v1511 v1508
  let v1513 : BitVec 32 := Scalar.addi v1507 v1506
  let v1514 : BitVec 32 := Scalar.select v1512 v1513 v1507
  let c1_i32_1334 : BitVec 32 := 1#32
  let v1516 : BitVec 32 := Scalar.muli v1514 c1_i32_1334
  let v1517 : BitVec 32 := Scalar.addi c0_i32_1335 v1516
  v1517.toNat
def k0_dev82 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1337 : BitVec 32 := 19#32
  let v1523 : BitVec 32 := Scalar.addi v2 c19_i32_1337
  let c32_i32_1338 : BitVec 32 := 32#32
  let c0_i32_1339 : BitVec 32 := 0#32
  let v1524 : BitVec 1 := Scalar.cmpi .eq c32_i32_1338 c0_i32_1339
  let c1_i32_1340 : BitVec 32 := 1#32
  let v1525 : BitVec 32 := Scalar.select v1524 c1_i32_1340 c32_i32_1338
  let v1526 : BitVec 32 := Scalar.remsi v1523 v1525
  let c0_i32_1342 : BitVec 32 := 0#32
  let v1528 : BitVec 1 := Scalar.cmpi .slt v1526 c0_i32_1342
  let c0_i32_1343 : BitVec 32 := 0#32
  let v1529 : BitVec 1 := Scalar.cmpi .slt v1525 c0_i32_1343
  let v1530 : BitVec 1 := Scalar.xori v1528 v1529
  let c0_i32_1341 : BitVec 32 := 0#32
  let v1527 : BitVec 1 := Scalar.cmpi .ne v1526 c0_i32_1341
  let v1531 : BitVec 1 := Scalar.andi v1530 v1527
  let v1532 : BitVec 32 := Scalar.addi v1526 v1525
  let v1533 : BitVec 32 := Scalar.select v1531 v1532 v1526
  let c1_i32_1347 : BitVec 32 := 1#32
  let v1535 : BitVec 32 := Scalar.muli v1533 c1_i32_1347
  let v1536 : BitVec 32 := Scalar.addi c0_i32_1348 v1535
  v1536.toNat
def k0_dev83 (d0 : Dev nD) : Nat :=
  let c0_i32_1361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1350 : BitVec 32 := 20#32
  let v1542 : BitVec 32 := Scalar.addi v2 c20_i32_1350
  let c32_i32_1351 : BitVec 32 := 32#32
  let c0_i32_1352 : BitVec 32 := 0#32
  let v1543 : BitVec 1 := Scalar.cmpi .eq c32_i32_1351 c0_i32_1352
  let c1_i32_1353 : BitVec 32 := 1#32
  let v1544 : BitVec 32 := Scalar.select v1543 c1_i32_1353 c32_i32_1351
  let v1545 : BitVec 32 := Scalar.remsi v1542 v1544
  let c0_i32_1355 : BitVec 32 := 0#32
  let v1547 : BitVec 1 := Scalar.cmpi .slt v1545 c0_i32_1355
  let c0_i32_1356 : BitVec 32 := 0#32
  let v1548 : BitVec 1 := Scalar.cmpi .slt v1544 c0_i32_1356
  let v1549 : BitVec 1 := Scalar.xori v1547 v1548
  let c0_i32_1354 : BitVec 32 := 0#32
  let v1546 : BitVec 1 := Scalar.cmpi .ne v1545 c0_i32_1354
  let v1550 : BitVec 1 := Scalar.andi v1549 v1546
  let v1551 : BitVec 32 := Scalar.addi v1545 v1544
  let v1552 : BitVec 32 := Scalar.select v1550 v1551 v1545
  let c1_i32_1360 : BitVec 32 := 1#32
  let v1554 : BitVec 32 := Scalar.muli v1552 c1_i32_1360
  let v1555 : BitVec 32 := Scalar.addi c0_i32_1361 v1554
  v1555.toNat
def k0_dev84 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1363 : BitVec 32 := 21#32
  let v1561 : BitVec 32 := Scalar.addi v2 c21_i32_1363
  let c32_i32_1364 : BitVec 32 := 32#32
  let c0_i32_1365 : BitVec 32 := 0#32
  let v1562 : BitVec 1 := Scalar.cmpi .eq c32_i32_1364 c0_i32_1365
  let c1_i32_1366 : BitVec 32 := 1#32
  let v1563 : BitVec 32 := Scalar.select v1562 c1_i32_1366 c32_i32_1364
  let v1564 : BitVec 32 := Scalar.remsi v1561 v1563
  let c0_i32_1368 : BitVec 32 := 0#32
  let v1566 : BitVec 1 := Scalar.cmpi .slt v1564 c0_i32_1368
  let c0_i32_1369 : BitVec 32 := 0#32
  let v1567 : BitVec 1 := Scalar.cmpi .slt v1563 c0_i32_1369
  let v1568 : BitVec 1 := Scalar.xori v1566 v1567
  let c0_i32_1367 : BitVec 32 := 0#32
  let v1565 : BitVec 1 := Scalar.cmpi .ne v1564 c0_i32_1367
  let v1569 : BitVec 1 := Scalar.andi v1568 v1565
  let v1570 : BitVec 32 := Scalar.addi v1564 v1563
  let v1571 : BitVec 32 := Scalar.select v1569 v1570 v1564
  let c1_i32_1373 : BitVec 32 := 1#32
  let v1573 : BitVec 32 := Scalar.muli v1571 c1_i32_1373
  let v1574 : BitVec 32 := Scalar.addi c0_i32_1374 v1573
  v1574.toNat
def k0_dev85 (d0 : Dev nD) : Nat :=
  let c0_i32_1387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1376 : BitVec 32 := 22#32
  let v1580 : BitVec 32 := Scalar.addi v2 c22_i32_1376
  let c32_i32_1377 : BitVec 32 := 32#32
  let c0_i32_1378 : BitVec 32 := 0#32
  let v1581 : BitVec 1 := Scalar.cmpi .eq c32_i32_1377 c0_i32_1378
  let c1_i32_1379 : BitVec 32 := 1#32
  let v1582 : BitVec 32 := Scalar.select v1581 c1_i32_1379 c32_i32_1377
  let v1583 : BitVec 32 := Scalar.remsi v1580 v1582
  let c0_i32_1381 : BitVec 32 := 0#32
  let v1585 : BitVec 1 := Scalar.cmpi .slt v1583 c0_i32_1381
  let c0_i32_1382 : BitVec 32 := 0#32
  let v1586 : BitVec 1 := Scalar.cmpi .slt v1582 c0_i32_1382
  let v1587 : BitVec 1 := Scalar.xori v1585 v1586
  let c0_i32_1380 : BitVec 32 := 0#32
  let v1584 : BitVec 1 := Scalar.cmpi .ne v1583 c0_i32_1380
  let v1588 : BitVec 1 := Scalar.andi v1587 v1584
  let v1589 : BitVec 32 := Scalar.addi v1583 v1582
  let v1590 : BitVec 32 := Scalar.select v1588 v1589 v1583
  let c1_i32_1386 : BitVec 32 := 1#32
  let v1592 : BitVec 32 := Scalar.muli v1590 c1_i32_1386
  let v1593 : BitVec 32 := Scalar.addi c0_i32_1387 v1592
  v1593.toNat
def k0_dev86 (d0 : Dev nD) : Nat :=
  let c0_i32_1400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1389 : BitVec 32 := 23#32
  let v1599 : BitVec 32 := Scalar.addi v2 c23_i32_1389
  let c32_i32_1390 : BitVec 32 := 32#32
  let c0_i32_1391 : BitVec 32 := 0#32
  let v1600 : BitVec 1 := Scalar.cmpi .eq c32_i32_1390 c0_i32_1391
  let c1_i32_1392 : BitVec 32 := 1#32
  let v1601 : BitVec 32 := Scalar.select v1600 c1_i32_1392 c32_i32_1390
  let v1602 : BitVec 32 := Scalar.remsi v1599 v1601
  let c0_i32_1394 : BitVec 32 := 0#32
  let v1604 : BitVec 1 := Scalar.cmpi .slt v1602 c0_i32_1394
  let c0_i32_1395 : BitVec 32 := 0#32
  let v1605 : BitVec 1 := Scalar.cmpi .slt v1601 c0_i32_1395
  let v1606 : BitVec 1 := Scalar.xori v1604 v1605
  let c0_i32_1393 : BitVec 32 := 0#32
  let v1603 : BitVec 1 := Scalar.cmpi .ne v1602 c0_i32_1393
  let v1607 : BitVec 1 := Scalar.andi v1606 v1603
  let v1608 : BitVec 32 := Scalar.addi v1602 v1601
  let v1609 : BitVec 32 := Scalar.select v1607 v1608 v1602
  let c1_i32_1399 : BitVec 32 := 1#32
  let v1611 : BitVec 32 := Scalar.muli v1609 c1_i32_1399
  let v1612 : BitVec 32 := Scalar.addi c0_i32_1400 v1611
  v1612.toNat
def k0_dev87 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1402 : BitVec 32 := 24#32
  let v1618 : BitVec 32 := Scalar.addi v2 c24_i32_1402
  let c32_i32_1403 : BitVec 32 := 32#32
  let c0_i32_1404 : BitVec 32 := 0#32
  let v1619 : BitVec 1 := Scalar.cmpi .eq c32_i32_1403 c0_i32_1404
  let c1_i32_1405 : BitVec 32 := 1#32
  let v1620 : BitVec 32 := Scalar.select v1619 c1_i32_1405 c32_i32_1403
  let v1621 : BitVec 32 := Scalar.remsi v1618 v1620
  let c0_i32_1407 : BitVec 32 := 0#32
  let v1623 : BitVec 1 := Scalar.cmpi .slt v1621 c0_i32_1407
  let c0_i32_1408 : BitVec 32 := 0#32
  let v1624 : BitVec 1 := Scalar.cmpi .slt v1620 c0_i32_1408
  let v1625 : BitVec 1 := Scalar.xori v1623 v1624
  let c0_i32_1406 : BitVec 32 := 0#32
  let v1622 : BitVec 1 := Scalar.cmpi .ne v1621 c0_i32_1406
  let v1626 : BitVec 1 := Scalar.andi v1625 v1622
  let v1627 : BitVec 32 := Scalar.addi v1621 v1620
  let v1628 : BitVec 32 := Scalar.select v1626 v1627 v1621
  let c1_i32_1412 : BitVec 32 := 1#32
  let v1630 : BitVec 32 := Scalar.muli v1628 c1_i32_1412
  let v1631 : BitVec 32 := Scalar.addi c0_i32_1413 v1630
  v1631.toNat
def k0_dev88 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1415 : BitVec 32 := 25#32
  let v1637 : BitVec 32 := Scalar.addi v2 c25_i32_1415
  let c32_i32_1416 : BitVec 32 := 32#32
  let c0_i32_1417 : BitVec 32 := 0#32
  let v1638 : BitVec 1 := Scalar.cmpi .eq c32_i32_1416 c0_i32_1417
  let c1_i32_1418 : BitVec 32 := 1#32
  let v1639 : BitVec 32 := Scalar.select v1638 c1_i32_1418 c32_i32_1416
  let v1640 : BitVec 32 := Scalar.remsi v1637 v1639
  let c0_i32_1420 : BitVec 32 := 0#32
  let v1642 : BitVec 1 := Scalar.cmpi .slt v1640 c0_i32_1420
  let c0_i32_1421 : BitVec 32 := 0#32
  let v1643 : BitVec 1 := Scalar.cmpi .slt v1639 c0_i32_1421
  let v1644 : BitVec 1 := Scalar.xori v1642 v1643
  let c0_i32_1419 : BitVec 32 := 0#32
  let v1641 : BitVec 1 := Scalar.cmpi .ne v1640 c0_i32_1419
  let v1645 : BitVec 1 := Scalar.andi v1644 v1641
  let v1646 : BitVec 32 := Scalar.addi v1640 v1639
  let v1647 : BitVec 32 := Scalar.select v1645 v1646 v1640
  let c1_i32_1425 : BitVec 32 := 1#32
  let v1649 : BitVec 32 := Scalar.muli v1647 c1_i32_1425
  let v1650 : BitVec 32 := Scalar.addi c0_i32_1426 v1649
  v1650.toNat
def k0_dev89 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1428 : BitVec 32 := 26#32
  let v1656 : BitVec 32 := Scalar.addi v2 c26_i32_1428
  let c32_i32_1429 : BitVec 32 := 32#32
  let c0_i32_1430 : BitVec 32 := 0#32
  let v1657 : BitVec 1 := Scalar.cmpi .eq c32_i32_1429 c0_i32_1430
  let c1_i32_1431 : BitVec 32 := 1#32
  let v1658 : BitVec 32 := Scalar.select v1657 c1_i32_1431 c32_i32_1429
  let v1659 : BitVec 32 := Scalar.remsi v1656 v1658
  let c0_i32_1433 : BitVec 32 := 0#32
  let v1661 : BitVec 1 := Scalar.cmpi .slt v1659 c0_i32_1433
  let c0_i32_1434 : BitVec 32 := 0#32
  let v1662 : BitVec 1 := Scalar.cmpi .slt v1658 c0_i32_1434
  let v1663 : BitVec 1 := Scalar.xori v1661 v1662
  let c0_i32_1432 : BitVec 32 := 0#32
  let v1660 : BitVec 1 := Scalar.cmpi .ne v1659 c0_i32_1432
  let v1664 : BitVec 1 := Scalar.andi v1663 v1660
  let v1665 : BitVec 32 := Scalar.addi v1659 v1658
  let v1666 : BitVec 32 := Scalar.select v1664 v1665 v1659
  let c1_i32_1438 : BitVec 32 := 1#32
  let v1668 : BitVec 32 := Scalar.muli v1666 c1_i32_1438
  let v1669 : BitVec 32 := Scalar.addi c0_i32_1439 v1668
  v1669.toNat
def k0_dev90 (d0 : Dev nD) : Nat :=
  let c0_i32_1452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1441 : BitVec 32 := 27#32
  let v1675 : BitVec 32 := Scalar.addi v2 c27_i32_1441
  let c32_i32_1442 : BitVec 32 := 32#32
  let c0_i32_1443 : BitVec 32 := 0#32
  let v1676 : BitVec 1 := Scalar.cmpi .eq c32_i32_1442 c0_i32_1443
  let c1_i32_1444 : BitVec 32 := 1#32
  let v1677 : BitVec 32 := Scalar.select v1676 c1_i32_1444 c32_i32_1442
  let v1678 : BitVec 32 := Scalar.remsi v1675 v1677
  let c0_i32_1446 : BitVec 32 := 0#32
  let v1680 : BitVec 1 := Scalar.cmpi .slt v1678 c0_i32_1446
  let c0_i32_1447 : BitVec 32 := 0#32
  let v1681 : BitVec 1 := Scalar.cmpi .slt v1677 c0_i32_1447
  let v1682 : BitVec 1 := Scalar.xori v1680 v1681
  let c0_i32_1445 : BitVec 32 := 0#32
  let v1679 : BitVec 1 := Scalar.cmpi .ne v1678 c0_i32_1445
  let v1683 : BitVec 1 := Scalar.andi v1682 v1679
  let v1684 : BitVec 32 := Scalar.addi v1678 v1677
  let v1685 : BitVec 32 := Scalar.select v1683 v1684 v1678
  let c1_i32_1451 : BitVec 32 := 1#32
  let v1687 : BitVec 32 := Scalar.muli v1685 c1_i32_1451
  let v1688 : BitVec 32 := Scalar.addi c0_i32_1452 v1687
  v1688.toNat
def k0_dev91 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1454 : BitVec 32 := 28#32
  let v1694 : BitVec 32 := Scalar.addi v2 c28_i32_1454
  let c32_i32_1455 : BitVec 32 := 32#32
  let c0_i32_1456 : BitVec 32 := 0#32
  let v1695 : BitVec 1 := Scalar.cmpi .eq c32_i32_1455 c0_i32_1456
  let c1_i32_1457 : BitVec 32 := 1#32
  let v1696 : BitVec 32 := Scalar.select v1695 c1_i32_1457 c32_i32_1455
  let v1697 : BitVec 32 := Scalar.remsi v1694 v1696
  let c0_i32_1459 : BitVec 32 := 0#32
  let v1699 : BitVec 1 := Scalar.cmpi .slt v1697 c0_i32_1459
  let c0_i32_1460 : BitVec 32 := 0#32
  let v1700 : BitVec 1 := Scalar.cmpi .slt v1696 c0_i32_1460
  let v1701 : BitVec 1 := Scalar.xori v1699 v1700
  let c0_i32_1458 : BitVec 32 := 0#32
  let v1698 : BitVec 1 := Scalar.cmpi .ne v1697 c0_i32_1458
  let v1702 : BitVec 1 := Scalar.andi v1701 v1698
  let v1703 : BitVec 32 := Scalar.addi v1697 v1696
  let v1704 : BitVec 32 := Scalar.select v1702 v1703 v1697
  let c1_i32_1464 : BitVec 32 := 1#32
  let v1706 : BitVec 32 := Scalar.muli v1704 c1_i32_1464
  let v1707 : BitVec 32 := Scalar.addi c0_i32_1465 v1706
  v1707.toNat
def k0_dev92 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1467 : BitVec 32 := 29#32
  let v1713 : BitVec 32 := Scalar.addi v2 c29_i32_1467
  let c32_i32_1468 : BitVec 32 := 32#32
  let c0_i32_1469 : BitVec 32 := 0#32
  let v1714 : BitVec 1 := Scalar.cmpi .eq c32_i32_1468 c0_i32_1469
  let c1_i32_1470 : BitVec 32 := 1#32
  let v1715 : BitVec 32 := Scalar.select v1714 c1_i32_1470 c32_i32_1468
  let v1716 : BitVec 32 := Scalar.remsi v1713 v1715
  let c0_i32_1472 : BitVec 32 := 0#32
  let v1718 : BitVec 1 := Scalar.cmpi .slt v1716 c0_i32_1472
  let c0_i32_1473 : BitVec 32 := 0#32
  let v1719 : BitVec 1 := Scalar.cmpi .slt v1715 c0_i32_1473
  let v1720 : BitVec 1 := Scalar.xori v1718 v1719
  let c0_i32_1471 : BitVec 32 := 0#32
  let v1717 : BitVec 1 := Scalar.cmpi .ne v1716 c0_i32_1471
  let v1721 : BitVec 1 := Scalar.andi v1720 v1717
  let v1722 : BitVec 32 := Scalar.addi v1716 v1715
  let v1723 : BitVec 32 := Scalar.select v1721 v1722 v1716
  let c1_i32_1477 : BitVec 32 := 1#32
  let v1725 : BitVec 32 := Scalar.muli v1723 c1_i32_1477
  let v1726 : BitVec 32 := Scalar.addi c0_i32_1478 v1725
  v1726.toNat
def k0_dev93 (d0 : Dev nD) : Nat :=
  let c0_i32_1491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1480 : BitVec 32 := 30#32
  let v1732 : BitVec 32 := Scalar.addi v2 c30_i32_1480
  let c32_i32_1481 : BitVec 32 := 32#32
  let c0_i32_1482 : BitVec 32 := 0#32
  let v1733 : BitVec 1 := Scalar.cmpi .eq c32_i32_1481 c0_i32_1482
  let c1_i32_1483 : BitVec 32 := 1#32
  let v1734 : BitVec 32 := Scalar.select v1733 c1_i32_1483 c32_i32_1481
  let v1735 : BitVec 32 := Scalar.remsi v1732 v1734
  let c0_i32_1485 : BitVec 32 := 0#32
  let v1737 : BitVec 1 := Scalar.cmpi .slt v1735 c0_i32_1485
  let c0_i32_1486 : BitVec 32 := 0#32
  let v1738 : BitVec 1 := Scalar.cmpi .slt v1734 c0_i32_1486
  let v1739 : BitVec 1 := Scalar.xori v1737 v1738
  let c0_i32_1484 : BitVec 32 := 0#32
  let v1736 : BitVec 1 := Scalar.cmpi .ne v1735 c0_i32_1484
  let v1740 : BitVec 1 := Scalar.andi v1739 v1736
  let v1741 : BitVec 32 := Scalar.addi v1735 v1734
  let v1742 : BitVec 32 := Scalar.select v1740 v1741 v1735
  let c1_i32_1490 : BitVec 32 := 1#32
  let v1744 : BitVec 32 := Scalar.muli v1742 c1_i32_1490
  let v1745 : BitVec 32 := Scalar.addi c0_i32_1491 v1744
  v1745.toNat
def k0_dev94 (d0 : Dev nD) : Nat :=
  let c0_i32_1504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1493 : BitVec 32 := 31#32
  let v1751 : BitVec 32 := Scalar.addi v2 c31_i32_1493
  let c32_i32_1494 : BitVec 32 := 32#32
  let c0_i32_1495 : BitVec 32 := 0#32
  let v1752 : BitVec 1 := Scalar.cmpi .eq c32_i32_1494 c0_i32_1495
  let c1_i32_1496 : BitVec 32 := 1#32
  let v1753 : BitVec 32 := Scalar.select v1752 c1_i32_1496 c32_i32_1494
  let v1754 : BitVec 32 := Scalar.remsi v1751 v1753
  let c0_i32_1498 : BitVec 32 := 0#32
  let v1756 : BitVec 1 := Scalar.cmpi .slt v1754 c0_i32_1498
  let c0_i32_1499 : BitVec 32 := 0#32
  let v1757 : BitVec 1 := Scalar.cmpi .slt v1753 c0_i32_1499
  let v1758 : BitVec 1 := Scalar.xori v1756 v1757
  let c0_i32_1497 : BitVec 32 := 0#32
  let v1755 : BitVec 1 := Scalar.cmpi .ne v1754 c0_i32_1497
  let v1759 : BitVec 1 := Scalar.andi v1758 v1755
  let v1760 : BitVec 32 := Scalar.addi v1754 v1753
  let v1761 : BitVec 32 := Scalar.select v1759 v1760 v1754
  let c1_i32_1503 : BitVec 32 := 1#32
  let v1763 : BitVec 32 := Scalar.muli v1761 c1_i32_1503
  let v1764 : BitVec 32 := Scalar.addi c0_i32_1504 v1763
  v1764.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x64 : Shape := ⟨2, ![512, 64]⟩
abbrev S_ : Shape := ⟨0, ![]⟩
abbrev S512 : Shape := ⟨1, ![512]⟩
abbrev S512x1 : Shape := ⟨2, ![512, 1]⟩
abbrev S512x2x1 : Shape := ⟨3, ![512, 2, 1]⟩
abbrev S512x64x512 : Shape := ⟨3, ![512, 64, 512]⟩
abbrev S512x1x1 : Shape := ⟨3, ![512, 1, 1]⟩
abbrev S512x1x512 : Shape := ⟨3, ![512, 1, 512]⟩
abbrev S512x512 : Shape := ⟨2, ![512, 512]⟩

abbrev nBuf : Space → Nat
  | .hbm => 60
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S64x256x512, .f32⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x64, .f32⟩
  | .hbm, ⟨15, _⟩ => ⟨S512x64, .f32⟩
  | .hbm, ⟨16, _⟩ => ⟨S_, .i32⟩
  | .hbm, ⟨17, _⟩ => ⟨S512x2, .i32⟩
  | .hbm, ⟨18, _⟩ => ⟨S512x2, .i1⟩
  | .hbm, ⟨19, _⟩ => ⟨S_, .i32⟩
  | .hbm, ⟨20, _⟩ => ⟨S512x2, .i32⟩
  | .hbm, ⟨21, _⟩ => ⟨S512x2, .i32⟩
  | .hbm, ⟨22, _⟩ => ⟨S512x2, .i32⟩
  | .hbm, ⟨23, _⟩ => ⟨S512x2x1, .i32⟩
  | .hbm, ⟨24, _⟩ => ⟨S512x2, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x64x512, .f32⟩
  | .hbm, ⟨29, _⟩ => ⟨S512x1, .i32⟩
  | .hbm, ⟨30, _⟩ => ⟨S512, .i32⟩
  | .hbm, ⟨31, _⟩ => ⟨S512x1, .i32⟩
  | .hbm, ⟨32, _⟩ => ⟨S512, .i32⟩
  | .hbm, ⟨33, _⟩ => ⟨S512x1x1, .i32⟩
  | .hbm, ⟨34, _⟩ => ⟨S_, .i32⟩
  | .hbm, ⟨35, _⟩ => ⟨S512x1x1, .i32⟩
  | .hbm, ⟨36, _⟩ => ⟨S512x1x1, .i1⟩
  | .hbm, ⟨37, _⟩ => ⟨S_, .i32⟩
  | .hbm, ⟨38, _⟩ => ⟨S512x1x1, .i32⟩
  | .hbm, ⟨39, _⟩ => ⟨S512x1x1, .i32⟩
  | .hbm, ⟨40, _⟩ => ⟨S512x1x1, .i32⟩
  | .hbm, ⟨41, _⟩ => ⟨S512x1x512, .f32⟩
  | .hbm, ⟨42, _⟩ => ⟨S512x512, .f32⟩
  | .hbm, ⟨43, _⟩ => ⟨S512x1x1, .i32⟩
  | .hbm, ⟨44, _⟩ => ⟨S_, .i32⟩
  | .hbm, ⟨45, _⟩ => ⟨S512x1x1, .i32⟩
  | .hbm, ⟨46, _⟩ => ⟨S512x1x1, .i1⟩
  | .hbm, ⟨47, _⟩ => ⟨S_, .i32⟩
  | .hbm, ⟨48, _⟩ => ⟨S512x1x1, .i32⟩
  | .hbm, ⟨49, _⟩ => ⟨S512x1x1, .i32⟩
  | .hbm, ⟨50, _⟩ => ⟨S512x1x1, .i32⟩
  | .hbm, ⟨51, _⟩ => ⟨S512x1x512, .f32⟩
  | .hbm, ⟨52, _⟩ => ⟨S512x512, .f32⟩
  | .hbm, ⟨53, _⟩ => ⟨S512x1, .f32⟩
  | .hbm, ⟨54, _⟩ => ⟨S512x512, .f32⟩
  | .hbm, ⟨55, _⟩ => ⟨S512x512, .f32⟩
  | .hbm, ⟨56, _⟩ => ⟨S512x1, .f32⟩
  | .hbm, ⟨57, _⟩ => ⟨S512x512, .f32⟩
  | .hbm, ⟨58, _⟩ => ⟨S512x512, .f32⟩
  | .hbm, ⟨59, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩

abbrev nD : Nat := 1
abbrev τ : Topo := Topo.v7x

variable {F : FTy → Type} [FloatOps F]
-- ==== Proof.Steps.lean ====
/-
The kernel's body as loops over hops.

The printed body is straight-line: 32 signals, a wait, 31 transfers, 62 waits, and so on, each written out.
Here the same body is a composition of seven list loops, each over the hop `s` (or the device `d`), and the
theorem `body_eq` says that the printed body is that composition.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Moe

open Cert.KernelIdeal Cert.KernelIdeal.Gen
open Idealize.ShloMosaic Idealize.ShloMosaic.TcCoe
open Idealize.SL Idealize.SL.Sem

variable {F : FTy → Type} [FloatOps F]

/-- One effect after another, along a list, then the rest of the program. -/
def seqL {α β : Type} (f : α → TpuEff nD τ sig (Elt F) Λ₀ .tc PUnit)
    (l : List α) (k : Prog (TpuEff nD τ sig (Elt F) Λ₀ .tc) β) : Prog (TpuEff nD τ sig (Elt F) Λ₀ .tc) β :=
  match l with
  | [] => k
  | x :: l => .op (f x) fun _ => seqL f l k

/-- The hops of the two exchanges, in program order. -/
def hops : List (Fin 32) :=
  [1, 2, 3, 4, 5, 6, 7, 8, 9, 10, 11, 12, 13, 14, 15, 16, 17, 18, 19, 20, 21, 22, 23, 24, 25, 26, 27, 28, 29, 30, 31]

/-- The devices, in the order in which they are signalled. -/
def allDevs : List (Fin 32) :=
  [0, 1, 2, 3, 4, 5, 6, 7, 8, 9, 10, 11, 12, 13, 14, 15, 16, 17, 18, 19, 20, 21, 22, 23, 24, 25, 26, 27, 28, 29, 30, 31]

/-- The device `s` places after `c` on the ring of 32. -/
def up (c s : Fin 32) : Fin 32 := ⟨(c.val + s.val) % 32, Nat.mod_lt _ (by decide)⟩

/-- The device `s` places before `c`. -/
def dn (c s : Fin 32) : Fin 32 := ⟨(c.val + (32 - s.val)) % 32, Nat.mod_lt _ (by decide)⟩

theorem inb_chunk (d : Fin 32) : ∀ a, (![16 * d.val, 0] : Fin 2 → ℕ) a + S16x512.size a ≤ S512x512.size a := by
  revert d; decide

theorem inb_slot (s : Fin 32) : ∀ a, (![s.val, 0, 0] : Fin 3 → ℕ) a + S1x16x512.size a ≤ S32x16x512.size a := by
  revert s; decide

theorem inb_sem (s : Fin 32) : ∀ a, (![s.val] : Fin 1 → ℕ) a + S1.size a ≤ S32.size a := by
  revert s; decide

/-- The hop's device, as the kernel computes it. -/
def devW (c : Dev nD) (w : BitVec 32) : ℕ :=
  let v2 : BitVec 32 := Scalar.remsi (Scalar.divsi (Dev.word c) 1#32) 32#32
  let m := Scalar.select (Scalar.cmpi .eq 32#32 0#32) 1#32 32#32
  let r := Scalar.remsi (Scalar.addi v2 w) m
  let n := Scalar.andi (Scalar.xori (Scalar.cmpi .slt r 0#32) (Scalar.cmpi .slt m 0#32)) (Scalar.cmpi .ne r 0#32)
  let t := Scalar.select n (Scalar.addi r m) r
  (Scalar.addi 0#32 (Scalar.muli t 1#32)).toNat

theorem devW_eq (c : Dev nD) (s : Fin 32) : devW c (BitVec.ofNat 32 s.val) = (up c s).val := by
  revert c s; decide +kernel

theorem devW_lt (c : Dev nD) (s : Fin 32) : devW c (BitVec.ofNat 32 s.val) < nD := by
  rw [devW_eq]; exact (up c s).isLt

theorem off1_eq (c : Dev nD) (s : Fin 32) : k0_off1 c (BitVec.ofNat 32 s.val) = ![16 * (up c s).val, 0] := by
  revert c s; decide +kernel

theorem off2_eq (c : Dev nD) : k0_off2 c = ![16 * c.val, 0] := by
  revert c; decide +kernel

theorem off3_eq (c : Dev nD) : k0_off3 c = ![16 * c.val, 0] := by
  revert c; decide +kernel

theorem off1_inb (c : Dev nD) (s : Fin 32) : ∀ a, k0_off1 c (BitVec.ofNat 32 s.val) a + S16x512.size a ≤ S512x512.size a := by
  rw [off1_eq]; exact inb_chunk (up c s)

/-- Sixteen rows of the result's buffer, from the row that `off` names. -/
abbrev rowsAt (arg4 : Memref sig .tc .vmem S512x512 .f32) (off : Fin 2 → ℕ) (h : ∀ a, off a + S16x512.size a ≤ S512x512.size a) :
    Memref sig .tc .vmem S16x512 .f32 :=
  arg4.slice (Rect.unit (s := S512x512) off S16x512.size h) (fun _ => rfl)

/-- Slot `s` of the buffer in which the partial sums arrive. -/
abbrev slotAt (arg5 : Memref sig .tc .vmem S32x16x512 .f32) (s : Fin 32) : Memref sig .tc .vmem S16x512 .f32 :=
  (arg5.slice (Rect.unit (s := S32x16x512) ![s.val, 0, 0] S1x16x512.size (inb_slot s)) (fun _ => rfl)).squeeze S16x512
    squeezes_S1x16x512_S16x512

/-- Semaphore `s` of an array of 32. -/
abbrev semAt (a : DmaSems sig S32) (s : Fin 32) : DmaSem sig :=
  ((a.slice (Rect.unit (s := S32) ![s.val] S1.size (inb_sem s))).squeeze S_ squeezes_S1_S_).sem

variable (arg0 : Memref sig .tc .vmem S512x256 .f32) (harg0 : arg0.IsWhole) (arg1 : Memref sig .tc .vmem S256x64 .f32) (harg1 : arg1.IsWhole)
  (arg2 : Memref sig .tc .vmem S512x2 .i32) (harg2 : arg2.IsWhole) (arg3 : Memref sig .tc .vmem S2x256x512 .f32) (harg3 : arg3.IsWhole)
  (arg4 : Memref sig .tc .vmem S512x512 .f32) (harg4 : arg4.IsWhole) (arg5 : Memref sig .tc .vmem S32x16x512 .f32) (harg5 : arg5.IsWhole)
  (arg6 : Memref sig .tc .vmem S16x512 .f32) (harg6 : arg6.IsWhole)
  (arg7 arg8 arg9 arg10 : DmaSems sig S32)

/-- The barrier's semaphore. -/
abbrev barS : Sem sig := (SemArray.scalar (sig.barrier 0 rfl) : Sems sig S_).sem

/-- A signal to device `d`'s barrier. -/
abbrev sigE (d : Fin 32) : TpuEff nD τ sig (Elt F) Λ₀ .tc PUnit :=
  .semSignal ((d : Dev nD), .tc) barS (1#32).toInt

/-- The transfer of 16 rows of the result's buffer into slot `s` of device `dev`. -/
abbrev rsE (dev : Dev nD) (off : Fin 2 → ℕ) (h : ∀ a, off a + S16x512.size a ≤ S512x512.size a) (s : Fin 32) :
    TpuEff nD τ sig (Elt F) Λ₀ .tc PUnit :=
  .enqueueDma (rowsAt arg4 off h) (.remote (Dev.tc dev) (slotAt arg5 s) (.dma (semAt arg7 s))) (.dma (semAt arg8 s))
    (View.wordExact_bits rfl) ((View.wordExact_bits rfl).reshape _ _) ⟨⟨rfl, Or.inl rfl⟩, trivial⟩

/-- The wait for the partial sum of hop `s`. -/
abbrev rsRecvE (off : Fin 2 → ℕ) (h : ∀ a, off a + S16x512.size a ≤ S512x512.size a) (s : Fin 32) :
    TpuEff nD τ sig (Elt F) Λ₀ .tc PUnit :=
  .waitDma2 (semAt arg8 s) (rowsAt arg4 off h) (slotAt arg5 s) (View.wordExact_bits rfl) ((View.wordExact_bits rfl).reshape _ _)

/-- The wait for one's own transfer of hop `s` to have left. -/
abbrev rsSentE (off : Fin 2 → ℕ) (h : ∀ a, off a + S16x512.size a ≤ S512x512.size a) (s : Fin 32) :
    TpuEff nD τ sig (Elt F) Λ₀ .tc PUnit :=
  .waitDma2 (semAt arg7 s) (slotAt arg5 s) (rowsAt arg4 off h) ((View.wordExact_bits rfl).reshape _ _) (View.wordExact_bits rfl)

/-- The transfer of the reduced rows into the result's buffer of device `dev`. -/
abbrev agE (dev : Dev nD) (off : Fin 2 → ℕ) (h : ∀ a, off a + S16x512.size a ≤ S512x512.size a) (s : Fin 32) :
    TpuEff nD τ sig (Elt F) Λ₀ .tc PUnit :=
  .enqueueDma arg6 (.remote (Dev.tc dev) (rowsAt arg4 off h) (.dma (semAt arg9 s))) (.dma (semAt arg10 s))
    harg6.wordExact (View.wordExact_bits rfl) ⟨⟨rfl, Or.inl rfl⟩, trivial⟩

/-- The wait for the reduced rows of hop `s`. -/
abbrev agRecvE (off : Fin 2 → ℕ) (h : ∀ a, off a + S16x512.size a ≤ S512x512.size a) (s : Fin 32) :
    TpuEff nD τ sig (Elt F) Λ₀ .tc PUnit :=
  .waitDma2 (semAt arg10 s) arg6 (rowsAt arg4 off h) harg6.wordExact (View.wordExact_bits rfl)

/-- The wait for one's own reduced rows of hop `s` to have left. -/
abbrev agSentE (off : Fin 2 → ℕ) (h : ∀ a, off a + S16x512.size a ≤ S512x512.size a) (s : Fin 32) :
    TpuEff nD τ sig (Elt F) Λ₀ .tc PUnit :=
  .waitDma2 (semAt arg9 s) (rowsAt arg4 off h) arg6 (View.wordExact_bits rfl) harg6.wordExact

variable [Facts]

/-- What a device adds to the result: its two experts' weighted products, from its blocks of the arguments. -/
def partialOf (c : Dev nD) (x : Vec F S512x256 .f32) (rw : Vec F S256x64 .f32) (i0 i1 : Vec F S512x1 .i32)
    (w0 w1 : Vec F S1x256x512 .f32) : Vec F S512x512 .f32 :=
  let v2 : BitVec 32 := Scalar.remsi (Scalar.divsi (Dev.word c) 1#32) 32#32
  let v69 := k0_pay1 x
  k0_pay9 v2 v69 (k0_pay2 v69 rw) (iota .tc S512x64 32 [1] iota_S512x64_d1_w32) (k0_pay3 i0) (k0_pay4 i1) (k0_pay5 v69 rw i0 i1) k0_pay6 (k0_pay7 v2 i0 i1) (k0_pay8 v2 v69 rw) w0 w1

/-- The last waits: for the others' reduced rows, and for one's own to have left. -/
def waitsAG (c : Dev nD) : Prog (TpuEff nD τ sig (Elt F) Λ₀ .tc) PUnit :=
  seqL (fun (s : Fin 32) => agRecvE arg4 arg6 harg6 arg10 (k0_off3 c) (k0_off3_inb c) s) hops
    (seqL (fun (s : Fin 32) => agSentE arg4 arg6 harg6 arg9 (k0_off3 c) (k0_off3_inb c) s) hops (.ret ⟨⟩))

/-- The device's own rows of the result are stored, then the last waits. -/
def ownRows (c : Dev nD) (red : Vec F S16x512 .f32) : Prog (TpuEff nD τ sig (Elt F) Λ₀ .tc) PUnit :=
  .op (.load arg4 (Rect.unit (s := S512x512) (k0_off2 c) S16x512.size (k0_off2_inb c)).toLoadRect (View.loadsAt_vmem h_S16x512)) fun (_ : Vec F S16x512 .f32) =>
  .op (.store arg4 (Rect.unit (s := S512x512) (k0_off2 c) S16x512.size (k0_off2_inb c)) red Finset.univ (View.stores_vmem_bits_univ h_S16x512 rfl) (.inl rfl)) fun _ =>
  waitsAG arg4 arg6 harg6 arg9 arg10 c

/-- The device's own part joins the received ones, they are summed, and the sum is sent to every other device. -/
def reduceGather (c : Dev nD) : Prog (TpuEff nD τ sig (Elt F) Λ₀ .tc) PUnit :=
  .op (.load arg4 (Rect.unit (s := S512x512) (k0_off2 c) S16x512.size (k0_off2_inb c)).toLoadRect (View.loadsAt_vmem h_S16x512)) fun (own : Vec F S16x512 .f32) =>
  .op (.load arg5 (Rect.unit (s := S32x16x512) ![0, 0, 0] S1x16x512.size inb_S32x16x512_S1x16x512_0_0_0).toLoadRect (View.loadsAt_vmem h_S1x16x512)) fun (_ : Vec F S1x16x512 .f32) =>
  .op (.store arg5 (Rect.unit (s := S32x16x512) ![0, 0, 0] S1x16x512.size inb_S32x16x512_S1x16x512_0_0_0) (k0_pay10 own) Finset.univ (View.stores_vmem_bits_univ h_S1x16x512 rfl) (.inl rfl)) fun _ =>
  .op (.load arg5 (Rect.unit (s := S32x16x512) ![0, 0, 0] S32x16x512.size inb_S32x16x512_S32x16x512_0_0_0).toLoadRect (View.loadsAt_vmem h_S32x16x512)) fun (parts : Vec F S32x16x512 .f32) =>
  .op (.load arg6 (Rect.unit (s := S16x512) ![0, 0] S16x512.size inb_S16x512_S16x512_0_0).toLoadRect (View.loadsAt_vmem h_S16x512)) fun (_ : Vec F S16x512 .f32) =>
  .op (.store arg6 (Rect.unit (s := S16x512) ![0, 0] S16x512.size inb_S16x512_S16x512_0_0) (k0_pay12 parts) Finset.univ (View.stores_vmem_bits_univ h_S16x512 rfl) (.inl rfl)) fun _ =>
  seqL (fun (s : Fin 32) => agE arg4 arg6 harg6 arg9 arg10 (⟨devW c (BitVec.ofNat 32 s.val), devW_lt c s⟩ : Dev nD) (k0_off3 c) (k0_off3_inb c) s) hops
    (ownRows arg4 arg6 harg6 arg9 arg10 c (k0_pay11 parts))

/-- The 31 transfers that scatter the device's sum, the waits for the others' and for one's own to have left. -/
def scatter (c : Dev nD) : Prog (TpuEff nD τ sig (Elt F) Λ₀ .tc) PUnit :=
  seqL (fun (s : Fin 32) => rsE arg4 arg5 arg7 arg8 (⟨devW c (BitVec.ofNat 32 s.val), devW_lt c s⟩ : Dev nD) (k0_off1 c (BitVec.ofNat 32 s.val)) (off1_inb c s) s) hops
    (seqL (fun (s : Fin 32) => rsRecvE arg4 arg5 arg8 (k0_off1 c (BitVec.ofNat 32 s.val)) (off1_inb c s) s) hops
      (seqL (fun (s : Fin 32) => rsSentE arg4 arg5 arg7 (k0_off1 c (BitVec.ofNat 32 s.val)) (off1_inb c s) s) hops
        (reduceGather arg4 arg5 arg6 harg6 arg9 arg10 c)))

/-- The loads of the device's blocks, its own sum and its store, then the exchange. -/
def compute (c : Dev nD) : Prog (TpuEff nD τ sig (Elt F) Λ₀ .tc) PUnit :=
  .op (.load arg0 (Rect.unit (s := S512x256) ![0, 0] S512x256.size inb_S512x256_S512x256_0_0).toLoadRect (View.loadsAt_vmem h_S512x256)) fun (x : Vec F S512x256 .f32) =>
  .op (.load arg1 (Rect.unit (s := S256x64) ![0, 0] S256x64.size inb_S256x64_S256x64_0_0).toLoadRect (View.loadsAt_vmem h_S256x64)) fun (rw : Vec F S256x64 .f32) =>
  .op (.load arg2 (Rect.unit (s := S512x2) ![0, 0] S512x1.size inb_S512x2_S512x1_0_0).toLoadRect (View.loadsAt_vmem h_S512x1)) fun (i0 : Vec F S512x1 .i32) =>
  .op (.load arg2 (Rect.unit (s := S512x2) ![0, 1] S512x1.size inb_S512x2_S512x1_0_1).toLoadRect (View.loadsAt_vmem h_S512x1)) fun (i1 : Vec F S512x1 .i32) =>
  .op (.load arg3 (Rect.unit (s := S2x256x512) ![0, 0, 0] S1x256x512.size inb_S2x256x512_S1x256x512_0_0_0).toLoadRect (View.loadsAt_vmem h_S1x256x512)) fun (w0 : Vec F S1x256x512 .f32) =>
  .op (.load arg3 (Rect.unit (s := S2x256x512) ![1, 0, 0] S1x256x512.size inb_S2x256x512_S1x256x512_1_0_0).toLoadRect (View.loadsAt_vmem h_S1x256x512)) fun (w1 : Vec F S1x256x512 .f32) =>
  .op (.load arg4 (Rect.unit (s := S512x512) ![0, 0] S512x512.size inb_S512x512_S512x512_0_0).toLoadRect (View.loadsAt_vmem h_S512x512)) fun (_ : Vec F S512x512 .f32) =>
  .op (.store arg4 (Rect.unit (s := S512x512) ![0, 0] S512x512.size inb_S512x512_S512x512_0_0) (partialOf c x rw i0 i1 w0 w1) Finset.univ (View.stores_vmem_bits_univ h_S512x512 rfl) (.inl rfl)) fun _ =>
  scatter arg4 arg5 arg6 harg6 arg7 arg8 arg9 arg10 c

/-- The whole body: a signal to every device and the wait for theirs, then the work. -/
def body : Prog (TpuEff nD τ sig (Elt F) Λ₀ .tc) PUnit :=
  .op .deviceId fun (c : Dev nD) =>
    seqL (fun (d : Fin 32) => sigE d) allDevs
      (.op (.semWait barS (32#32).toInt) fun _ => compute arg0 arg1 arg2 arg3 arg4 arg5 arg6 harg6 arg7 arg8 arg9 arg10 c)

set_option maxRecDepth 65536 in
/-- The printed body is the composition of loops above. -/
theorem body_eq : cc0_body (F := F) arg0 harg0 arg1 harg1 arg2 harg2 arg3 harg3 arg4 harg4 arg5 harg5 arg6 harg6 arg7 arg8 arg9 arg10
    = body arg0 arg1 arg2 arg3 arg4 arg5 arg6 harg6 arg7 arg8 arg9 arg10 := by
  rw [cc0_body_eq_skeleton]
  rfl

end Cert.KernelIdeal.Moe

end
-- ==== Proof.Places.lean ====
/-
The places that the transfers touch: the rows of the result's buffer and the slots of the receive buffer,
as sets of indices and as reads.
-/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic Idealize.ShloMosaic.TcCoe
open Idealize.SL Idealize.SL.Sem

variable {F : FTy → Type} [FloatOps F]

/-- The staging buffers of the four arguments and of the result, and the two scratch buffers. -/
abbrev xM : Memref sig .tc .vmem S512x256 .f32 := Memref.whole cc0_stg0_0
abbrev gM : Memref sig .tc .vmem S256x64 .f32 := Memref.whole cc0_stg1_0
abbrev iM : Memref sig .tc .vmem S512x2 .i32 := Memref.whole cc0_stg2_0
abbrev wM : Memref sig .tc .vmem S2x256x512 .f32 := Memref.whole cc0_stg3_0
abbrev oM : Memref sig .tc .vmem S512x512 .f32 := Memref.whole cc0_stg4_0
abbrev rM : Memref sig .tc .vmem S32x16x512 .f32 := Memref.whole cc0_scratch0
abbrev aM : Memref sig .tc .vmem S16x512 .f32 := Memref.whole cc0_scratch1

/-- The rows of the result's buffer that device `d` reduces. -/
abbrev rows (d : Fin 32) : Memref sig .tc .vmem S16x512 .f32 := rowsAt oM ![16 * d.val, 0] (inb_chunk d)
/-- Slot `s` of the receive buffer. -/
abbrev slot (s : Fin 32) : Memref sig .tc .vmem S16x512 .f32 := slotAt rM s

/-- An index of a 512 by 512 array, of a 16 by 512 array, and of a 32 by 16 by 512 array. -/
abbrev ixO (a b : Fin 512) : S512x512.Idx := fun | ⟨0, _⟩ => a | ⟨1, _⟩ => b
abbrev ixA (a : Fin 16) (b : Fin 512) : S16x512.Idx := fun | ⟨0, _⟩ => a | ⟨1, _⟩ => b
abbrev ixR (s : Fin 32) (a : Fin 16) (b : Fin 512) : S32x16x512.Idx := fun | ⟨0, _⟩ => s | ⟨1, _⟩ => a | ⟨2, _⟩ => b

/-- Row `a` of device `d`'s rows. -/
def rowOf (d : Fin 32) (a : Fin 16) : Fin 512 := ⟨16 * d.val + a.val, by omega⟩

theorem rows_emb (d : Fin 32) (x : S16x512.Idx) : (rows d).view.emb x = ixO (rowOf d (x 0)) (x 1) := by
  funext a
  refine Fin.ext ?_
  match a with
  | ⟨0, _⟩ => show 16 * d.val + 1 * (x 0).val = 16 * d.val + (x 0).val; omega
  | ⟨1, _⟩ => show 0 + 1 * (x 1).val = (x 1).val; omega

theorem slot_emb (s : Fin 32) (x : S16x512.Idx) : (slot s).view.emb x = ixR s (x 0) (x 1) := by
  have h : ∀ y : S1x16x512.Idx, y = Fin.cons ⟨0, Nat.one_pos⟩ x → (rM.slice (Rect.unit (s := S32x16x512) ![s.val, 0, 0] S1x16x512.size (inb_slot s)) (fun _ => rfl)).view.emb y = ixR s (x 0) (x 1) := by
    rintro y rfl
    funext a
    refine Fin.ext ?_
    match a with
    | ⟨0, _⟩ => show s.val + 1 * 0 = s.val; omega
    | ⟨1, _⟩ => show 0 + 1 * (x 0).val = (x 0).val; omega
    | ⟨2, _⟩ => show 0 + 1 * (x 1).val = (x 1).val; omega
  exact h _ (Shape.reshapeEquiv_cons_one _ x)

theorem mem_rows (d : Fin 32) (i : S512x512.Idx) : i ∈ (rows d).view.set ↔ (i 0).val / 16 = d.val := by
  unfold View.set
  rw [Finset.mem_map]
  constructor
  · rintro ⟨x, -, rfl⟩
    rw [rows_emb]
    show (16 * d.val + (x 0).val) / 16 = d.val
    have : (x 0).val < 16 := (x 0).isLt
    omega
  · intro h
    refine ⟨ixA ⟨(i 0).val % 16, Nat.mod_lt _ (by decide)⟩ (i 1), Finset.mem_univ _, ?_⟩
    rw [rows_emb]
    funext a
    refine Fin.ext ?_
    match a with
    | ⟨0, _⟩ => show 16 * d.val + (i 0).val % 16 = (i 0).val; omega
    | ⟨1, _⟩ => rfl

theorem mem_slot (s : Fin 32) (i : S32x16x512.Idx) : i ∈ (slot s).view.set ↔ (i 0).val = s.val := by
  unfold View.set
  rw [Finset.mem_map]
  constructor
  · rintro ⟨x, -, rfl⟩
    rw [slot_emb]
  · intro h
    refine ⟨ixA (i 1) (i 2), Finset.mem_univ _, ?_⟩
    rw [slot_emb]
    funext a
    refine Fin.ext ?_
    match a with
    | ⟨0, _⟩ => exact h.symm
    | ⟨1, _⟩ => rfl
    | ⟨2, _⟩ => rfl

theorem rows_read (d : Fin 32) (f : S512x512.Idx → Elt F .f32) :
    (rows d).view.read (Elt F) f = fun x => f (ixO (rowOf d (x 0)) (x 1)) := by
  funext x
  exact congrArg f (rows_emb d x)

theorem slot_read (s : Fin 32) (f : S32x16x512.Idx → Elt F .f32) :
    (slot s).view.read (Elt F) f = fun x => f (ixR s (x 0) (x 1)) := by
  funext x
  exact congrArg f (slot_emb s x)

/-- What is written through a view agrees, on the view, with every contents that reads as what was written. -/
theorem write_eq_of_read {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := by
  intro i hi
  obtain ⟨x, -, rfl⟩ := Finset.mem_map.mp hi
  subst h
  rw [View.write_emb_of_mem (v := v) _ _ (Finset.mem_univ x)]
  simp only [View.read]
  simp

end Cert.KernelIdeal.Moe

end
-- ==== Proof.Protocol.lean ====
/-
The protocol of the exchange: who owes which semaphore what, and what each landing hands over.

* The barrier of device `c`: one unit from every device `d`, which brings slot `c → d` of `d`'s receive buffer, the one that
  `c`'s transfer to `d` will fill.
* The receive semaphore of hop `s` of the scatter on device `c`: the credit of the transfer from the device `s` places
  before `c`. It brings slot `s` of `c`'s receive buffer, filled, and the rows of `c` in the SENDER's result buffer: those
  rows are free again, and `c` will write the reduced rows there.
* The send semaphore of the scatter: the credit alone.
* The receive semaphore of hop `s` of the gather on device `c`: the rows of the device `s` places before `c`, reduced.
* The send semaphore of the gather: the share of the reduced rows that the transfer read.
-/
module

public import proofs.«01_k».proof.Proof.Places

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring of 32 -/

theorem up_dn (c s : Fin 32) : up (dn c s) s = c := by revert c s; decide +kernel
theorem dn_up (c s : Fin 32) : dn (up c s) s = c := by revert c s; decide +kernel
theorem dn_zero (c : Fin 32) : dn c 0 = c := by revert c; decide

/-- How many places `d` lies after `c`. -/
def gap (c d : Fin 32) : Fin 32 := ⟨(d.val + (32 - c.val)) % 32, Nat.mod_lt _ (by decide)⟩

theorem gap_up (c s : Fin 32) : gap c (up c s) = s := by revert c s; decide +kernel
theorem up_gap (c d : Fin 32) : up c (gap c d) = d := by revert c d; decide +kernel
theorem dn_gap (c d : Fin 32) : dn d (gap c d) = c := by revert c d; decide +kernel
theorem gap_dn (c s : Fin 32) : gap (dn c s) c = s := by revert c s; decide +kernel

/-- Hop `s` as a permutation of the devices; the places after `c`; those before it. -/
def upEquiv (s : Fin 32) : Fin 32 ≃ Fin 32 := ⟨fun c => up c s, fun c => dn c s, fun c => dn_up c s, fun c => up_dn c s⟩
def fromEquiv (c : Fin 32) : Fin 32 ≃ Fin 32 := ⟨fun s => up c s, fun d => gap c d, fun s => gap_up c s, fun d => up_gap c d⟩
def toEquiv (c : Fin 32) : Fin 32 ≃ Fin 32 := ⟨fun s => dn c s, fun d => gap d c, fun s => gap_dn c s, fun d => dn_gap d c⟩

/-! ## The semaphores -/

/-- The four arrays of DMA semaphores: scatter sent, scatter received, gather sent, gather received. -/
def semArr : Fin 4 → DmaSems sig S32
  | 0 => cc0_scratch2 | 1 => cc0_scratch3 | 2 => cc0_scratch4 | 3 => cc0_scratch5

abbrev dsem (j : Fin 4) (s : Fin 32) : DmaSem sig := semAt (semArr j) s

theorem dsem_val (j : Fin 4) (s : Fin 32) : (dsem j s).val = 5 + 32 * j.val + s.val := by
  revert j s; decide +kernel

/-- Which array a DMA semaphore belongs to, and its place there. -/
def dmaIx (q : DmaSem sig) : ℕ × Fin 32 := ((q.val - 5) / 32, ⟨(q.val - 5) % 32, Nat.mod_lt _ (by decide)⟩)

theorem dmaIx_dsem (j : Fin 4) (s : Fin 32) : dmaIx (dsem j s) = (j.val, s) := by
  unfold dmaIx
  refine Prod.ext ?_ (Fin.ext ?_) <;> dsimp only <;> rw [dsem_val] <;> omega

theorem dsem_inj {j j' : Fin 4} {s s' : Fin 32} (h : dsem j s = dsem j' s') : j = j' ∧ s = s' := by
  have h1 := congrArg dmaIx h
  rw [dmaIx_dsem, dmaIx_dsem] at h1
  exact ⟨Fin.ext (congrArg Prod.fst h1), congrArg Prod.snd h1⟩

abbrev barCell (c : Dev nD) : GSem nD τ sig := ((c : Thread nD τ), .reg barS)
abbrev dcell (j : Fin 4) (c : Dev nD) (s : Fin 32) : GSem nD τ sig := ((c : Thread nD τ), .dma (dsem j s))

theorem barCell_iff {c d : Dev nD} : barCell c = barCell d ↔ c = d :=
  ⟨fun h => congrArg (fun g : GSem nD τ sig => g.1.1) h, fun h => h ▸ rfl⟩

theorem dcell_iff {j j' : Fin 4} {c d : Dev nD} {s s' : Fin 32} : dcell j c s = dcell j' d s' ↔ j = j' ∧ c = d ∧ s = s' := by
  constructor
  · intro h
    have h1 : c = d := congrArg (fun g : GSem nD τ sig => g.1.1) h
    have h2 : SemLoc.dma (dsem j s) = .dma (dsem j' s') := congrArg (fun g : GSem nD τ sig => g.2) h
    obtain ⟨h3, h4⟩ := dsem_inj (SemLoc.dma.inj h2)
    exact ⟨h3, h1, h4⟩
  · rintro ⟨rfl, rfl, rfl⟩; rfl

theorem bar_ne_dcell {j : Fin 4} {c d : Dev nD} {s : Fin 32} : barCell d ≠ dcell j c s := fun h => by
  have := congrArg (fun g : GSem nD τ sig => g.2) h
  cases this

/-- A transfer's credit: that of 16 rows of 512 words. -/
def N : ℕ := aM.view.dmaCredit
theorem N_pos : 0 < N := View.dmaCredit_pos _ (by decide)

theorem amount_slot (s s' : Fin 32) (j : Fin 4) : (slot s).view.amount (.dma (dsem j s')) = N := rfl
theorem amount_rows (d s' : Fin 32) (j : Fin 4) : (rows d).view.amount (.dma (dsem j s')) = N := rfl

/-! ## The resource algebra -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The device's blocks of the four arguments, as its staging buffers hold them. -/
def stgX (c : Dev nD) : (cc0_stg0_0 : Ref sig .tc).ty.Contents (Elt F) :=
  (win0_0.blk (0 : Fin 1)).view.read (Elt F) ((s₀ m ρ).mem ((c : Thread nD τ).loc main_arg0))
def stgG (c : Dev nD) : (cc0_stg1_0 : Ref sig .tc).ty.Contents (Elt F) :=
  (win0_1.blk (0 : Fin 1)).view.read (Elt F) ((s₀ m ρ).mem ((c : Thread nD τ).loc main_arg1))
def stgI (c : Dev nD) : (cc0_stg2_0 : Ref sig .tc).ty.Contents (Elt F) :=
  (win0_2.blk (0 : Fin 1)).view.read (Elt F) ((s₀ m ρ).mem ((c : Thread nD τ).loc main_arg2))
def stgW (c : Dev nD) : (cc0_stg3_0 : Ref sig .tc).ty.Contents (Elt F) :=
  (win0_3.blk (0 : Fin 1)).view.read (Elt F) ((s₀ m ρ).mem ((c : Thread nD τ).loc main_arg3))

/-- Device `c`'s own sum: its two experts' part of every row. -/
def own (c : Dev nD) : S512x512.Idx → Elt F .f32 :=
  partialOf c
    (xM.view.readAt (Elt F) (Rect.unit (s := S512x256) ![0, 0] S512x256.size inb_S512x256_S512x256_0_0).toLoadRect (stgX m ρ c))
    (gM.view.readAt (Elt F) (Rect.unit (s := S256x64) ![0, 0] S256x64.size inb_S256x64_S256x64_0_0).toLoadRect (stgG m ρ c))
    (iM.view.readAt (Elt F) (Rect.unit (s := S512x2) ![0, 0] S512x1.size inb_S512x2_S512x1_0_0).toLoadRect (stgI m ρ c))
    (iM.view.readAt (Elt F) (Rect.unit (s := S512x2) ![0, 1] S512x1.size inb_S512x2_S512x1_0_1).toLoadRect (stgI m ρ c))
    (wM.view.readAt (Elt F) (Rect.unit (s := S2x256x512) ![0, 0, 0] S1x256x512.size inb_S2x256x512_S1x256x512_0_0_0).toLoadRect (stgW m ρ c))
    (wM.view.readAt (Elt F) (Rect.unit (s := S2x256x512) ![1, 0, 0] S1x256x512.size inb_S2x256x512_S1x256x512_1_0_0).toLoadRect (stgW m ρ c))

/-- What the receive buffer of device `c` holds in the end: in slot `s`, `c`'s rows of the sum of the device `s` places
    before `c`. -/
def parts (c : Dev nD) : S32x16x512.Idx → Elt F .f32 := fun i => own m ρ (dn c (i 0)) (ixO (rowOf c (i 1)) (i 2))

/-- Device `c`'s rows of the result: the 32 parts, summed. -/
def reduced (c : Dev nD) : S16x512.Idx → Elt F .f32 := k0_pay11 (parts m ρ c)

/-- The result, the same on every device. -/
def result : S512x512.Idx → Elt F .f32 := fun i =>
  reduced m ρ (⟨(i 0).val / 16, by have : (i 0).val < 512 := (i 0).isLt; omega⟩ : Fin 32) (ixA ⟨(i 0).val % 16, Nat.mod_lt _ (by decide)⟩ (i 1))

/-! ## Ownership of the places -/

def slotPts (c : Dev nD) (s : Fin 32) (f : Buf (Elt F) ((slot s).view.loc (c : Thread nD τ))) : sProp 𝕄 :=
  (slot s).view.loc (c : Thread nD τ) ↦[(slot s).view.set]{fullShare} f
def rowPts (c : Dev nD) (d : Fin 32) (f : Buf (Elt F) ((rows d).view.loc (c : Thread nD τ))) : sProp 𝕄 :=
  (rows d).view.loc (c : Thread nD τ) ↦[(rows d).view.set]{fullShare} f
def redPts (c : Dev nD) (q : PosShare TreeShare) : sProp 𝕄 :=
  aM.view.loc (c : Thread nD τ) ↦[aM.view.set]{q} reduced m ρ c

instance slotPts_storable (c : Dev nD) (s : Fin 32) (f) : BI.Storable (upEmb : UEmb _ 𝕄) (slotPts (F := F) c s f) := by unfold slotPts; infer_instance
instance rowPts_storable (c : Dev nD) (s : Fin 32) (f) : BI.Storable (upEmb : UEmb _ 𝕄) (rowPts (F := F) c s f) := by unfold rowPts; infer_instance
instance redPts_storable (c : Dev nD) (q) : BI.Storable (upEmb : UEmb _ 𝕄) (redPts (F := F) m ρ c q) := by unfold redPts; infer_instance

/-- The share of the reduced rows that the gather's transfer of hop `s` reads. -/
abbrev tok (s : Fin 32) : PosShare TreeShare := Transfers.shareTok fullShare 32 s

/-! ## The schedule -/

/-- What device `d`'s signal hands device `c`: the slot on `d` that `c`'s transfer fills. -/
def barPay (c d : Fin 32) : sProp 𝕄 := iprop(∃ f, slotPts (F := F) d (gap c d) f)

/-- What a landing on device `c`'s DMA semaphore hands it. -/
def landPay (j : ℕ) (c : Dev nD) (s : Fin 32) : sProp 𝕄 :=
  match j with
  | 1 => iprop(slotPts c s (parts m ρ c) ∗ rowPts (dn c s) c (own m ρ (dn c s)))
  | 2 => redPts m ρ c (tok s)
  | 3 => rowPts c (dn c s) (result m ρ)
  | _ => iprop(emp)

instance barPay_storable (c d : Fin 32) : BI.Storable (upEmb : UEmb _ 𝕄) (barPay (F := F) c d) := by unfold barPay; infer_instance
instance landPay_storable (j : ℕ) (c : Dev nD) (s : Fin 32) : BI.Storable (upEmb : UEmb _ 𝕄) (landPay (F := F) m ρ j c s) := by
  unfold landPay; split <;> infer_instance

/-- One round: a barrier has a duty of one unit for every device; a DMA semaphore of a hop one duty, a transfer's credit. -/
def sched : Rounds.Schedule (GSem nD τ sig) (Fin 32) 𝕄 where
  duties g r := if r = 0 ∧ g.1.2 = .tc then
      (match g.2 with
        | .reg q => if q = barS then Finset.univ else ∅
        | .dma q => if (dmaIx q).2 = 0 then ∅ else {0})
    else ∅
  unitless _ := False
  amount g _ _ := match g.2 with
    | .reg _ => 1
    | .dma _ => N
  payload g _ d := match g.2 with
    | .reg _ => barPay g.1.1 d
    | .dma q => landPay m ρ (dmaIx q).1 g.1.1 (dmaIx q).2
  amount_pos g _ _ _ := by
    obtain ⟨t, sm⟩ := g
    cases sm
    · exact Nat.one_pos
    · exact N_pos

instance sched_payload_storable (g : GSem nD τ sig) (r : ℕ) (d : Fin 32) :
    BI.Storable (upEmb : UEmb _ 𝕄) ((sched (F := F) m ρ).payload g r d) := by
  obtain ⟨t, sm⟩ := g
  cases sm
  · exact barPay_storable _ _
  · exact landPay_storable _ _ _ _ _

theorem duties_bar (c : Dev nD) : (sched (F := F) m ρ).duties (barCell c) 0 = Finset.univ := by
  dsimp only [sched]; rw [if_pos ⟨rfl, rfl⟩]; exact if_pos rfl
theorem duties_dma (j : Fin 4) (c : Dev nD) {s : Fin 32} (hs : s ≠ 0) : (sched (F := F) m ρ).duties (dcell j c s) 0 = {0} := by
  dsimp only [sched]; rw [if_pos ⟨rfl, rfl⟩, dmaIx_dsem]; exact if_neg hs
theorem duties_zero (j : Fin 4) (c : Dev nD) (r : ℕ) : (sched (F := F) m ρ).duties (dcell j c 0) r = ∅ := by
  dsimp only [sched]; rw [dmaIx_dsem]; dsimp only; rw [if_pos rfl, ite_self]
theorem duties_later (g : GSem nD τ sig) : ∀ r, 1 ≤ r → (sched (F := F) m ρ).duties g r = ∅ :=
  fun r hr => by dsimp only [sched]; exact if_neg fun h => by omega

theorem amount_bar (c : Dev nD) (d : Fin 32) : (sched (F := F) m ρ).amount (barCell c) 0 d = 1 := rfl
theorem amount_dma (j : Fin 4) (c : Dev nD) (s d : Fin 32) : (sched (F := F) m ρ).amount (dcell j c s) 0 d = N := rfl

theorem payload_bar (c : Dev nD) (d : Fin 32) : (sched (F := F) m ρ).payload (barCell c) 0 d = barPay c d := rfl
theorem payload_dma (j : Fin 4) (c : Dev nD) (s d : Fin 32) : (sched (F := F) m ρ).payload (dcell j c s) 0 d = landPay m ρ j.val c s := by
  dsimp only [sched]; rw [dmaIx_dsem]

theorem expect_bar (c : Dev nD) : (sched (F := F) m ρ).expect (barCell c) 0 = 32 := by
  unfold Schedule.expect Schedule.amountOf
  rw [duties_bar, Finset.sum_congr rfl fun d _ => amount_bar m ρ c d, Finset.sum_const, Finset.card_univ, Fintype.card_fin, smul_eq_mul]
theorem expect_dma (j : Fin 4) (c : Dev nD) {s : Fin 32} (hs : s ≠ 0) : (sched (F := F) m ρ).expect (dcell j c s) 0 = N := by
  unfold Schedule.expect Schedule.amountOf; rw [duties_dma m ρ j c hs, Finset.sum_singleton, amount_dma]

theorem rest_bar (c : Dev nD) : bigSep ((sched (F := F) m ρ).duties (barCell c) 0 \ ∅) (fun d => (sched (F := F) m ρ).payload (barCell c) 0 d)
    = bigSep Finset.univ fun d => barPay (F := F) c d := by
  rw [Finset.sdiff_empty, duties_bar]; rfl
theorem rest_dma (j : Fin 4) (c : Dev nD) {s : Fin 32} (hs : s ≠ 0) :
    bigSep ((sched (F := F) m ρ).duties (dcell j c s) 0 \ ∅) (fun d => (sched (F := F) m ρ).payload (dcell j c s) 0 d) = landPay m ρ j.val c s := by
  rw [Finset.sdiff_empty, duties_dma m ρ j c hs, bigSep_singleton, payload_dma]

/-! ## What a device owes; the levels -/

/-- The sum of a family of tallies along a list. -/
def owing {α : Type} (f : α → CellTallies nD τ sig Unit) : List α → CellTallies nD τ sig Unit
  | [] => 0
  | x :: l => owing f l + f x

def barOwe (d : Fin 32) : CellTallies nD τ sig Unit := tallyAt (barCell d) () 1
/-- The credit of hop `s` to the device `s` places after `c`: of the scatter (`j = 1`), of the gather (`j = 3`). -/
def hopOwe (j : Fin 4) (c : Dev nD) (s : Fin 32) : CellTallies nD τ sig Unit := tallyAt (dcell j (up c s) s) () N

/-- All that device `c` owes at launch. -/
def O₀ (c : Dev nD) : CellTallies nD τ sig Unit := owing barOwe allDevs + (owing (hopOwe 1 c) hops + owing (hopOwe 3 c) hops)

theorem owing_pos {α : Type} {f : α → CellTallies nD τ sig Unit} {l : List α} {g : GSem nD τ sig} {u : Unit} (h : 0 < owing f l g u) :
    ∃ x ∈ l, 0 < f x g u := by
  induction l with
  | nil => exact absurd h (Nat.lt_irrefl 0)
  | cons x l ih =>
    have h' : 0 < owing f l g u + f x g u := h
    rcases Nat.eq_zero_or_pos (owing f l g u) with h0 | h0
    · exact ⟨x, List.mem_cons_self, by omega⟩
    · obtain ⟨y, hy, hp⟩ := ih h0
      exact ⟨y, List.mem_cons_of_mem _ hy, hp⟩

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barriers at 1, the scatter's receive semaphores at 2, the gather's at 3, everything else at 0. -/
def lv (g : GSem nD τ sig) (_ : Unit) : ℕ := match g.2 with
  | .reg _ => 1
  | .dma q => if q.val < 5 then 0 else if (dmaIx q).1 = 1 then 2 else if (dmaIx q).1 = 3 then 3 else 0

theorem lv_dma (j : Fin 4) (c : Dev nD) (s : Fin 32) (u : Unit) :
    lv (dcell j c s) u = if j.val = 1 then 2 else if j.val = 3 then 3 else 0 := by
  dsimp only [lv]
  rw [if_neg (by rw [dsem_val]; omega), dmaIx_dsem]

/-- A device may wait below everything that it still owes. -/
theorem mayWait (c : Dev nD) (sm : SemLoc sig) (O : CellTallies nD τ sig Unit) (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem hopOwe_pos {j : Fin 4} {c : Dev nD} {l : List (Fin 32)} {g : GSem nD τ sig} {u : Unit} (h : 0 < owing (hopOwe j c) l g u) :
    ∃ d s, g = dcell j d s := by
  obtain ⟨s, -, hp⟩ := owing_pos h
  exact ⟨_, _, tallyAt_pos hp⟩

theorem owes_above_bar (c : Dev nD) (g : GSem nD τ sig) (u : Unit) (h : 0 < (owing (hopOwe 1 c) hops + owing (hopOwe 3 c) hops) g u) :
    g.1.2 = .tc ∧ 1 < lv g u := by
  have h' : 0 < owing (hopOwe 1 c) hops g u + owing (hopOwe 3 c) hops g u := h
  rcases Nat.eq_zero_or_pos (owing (hopOwe 1 c) hops g u) with h0 | h0
  · obtain ⟨d, s, rfl⟩ := hopOwe_pos (j := 3) (c := c) (l := hops) (g := g) (u := u) (by omega)
    exact ⟨rfl, by rw [lv_dma]; decide⟩
  · obtain ⟨d, s, rfl⟩ := hopOwe_pos h0
    exact ⟨rfl, by rw [lv_dma]; decide⟩

theorem owes_above_all (c : Dev nD) (g : GSem nD τ sig) (u : Unit) (h : 0 < O₀ c g u) : g.1.2 = .tc ∧ 0 < lv g u := by
  have h' : 0 < owing barOwe allDevs g u + (owing (hopOwe 1 c) hops + owing (hopOwe 3 c) hops) g u := h
  rcases Nat.eq_zero_or_pos (owing barOwe allDevs g u) with h0 | h0
  · have h1 := owes_above_bar c g u (by omega)
    exact ⟨h1.1, by omega⟩
  · obtain ⟨d, -, hp⟩ := owing_pos h0
    obtain rfl := tallyAt_pos hp
    exact ⟨rfl, by dsimp only [lv]; decide⟩

theorem owes_above_scatter (c : Dev nD) (g : GSem nD τ sig) (u : Unit) (h : 0 < owing (hopOwe 3 c) hops g u) : g.1.2 = .tc ∧ 2 < lv g u := by
  obtain ⟨d, s, rfl⟩ := hopOwe_pos h
  exact ⟨rfl, by rw [lv_dma]; decide⟩

end Cert.KernelIdeal.Moe

end
-- ==== Proof.Loops.lean ====
/-
The loops of the body, each by one rule: a loop along a list turns the resources of each element into its results,
while what the device owes shrinks. One step lemma per kind of effect.
-/
module

public import proofs.«01_k».proof.Proof.Protocol

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable [Facts]

/-- The weakest precondition of a program of device `c`. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## Resources along a list -/

/-- A family of resources along a list. -/
def sepL {α : Type} (Φ : α → sProp 𝕄) : List α → sProp 𝕄
  | [] => iprop(emp)
  | x :: l => iprop(Φ x ∗ sepL Φ l)

omit [FloatOps F] [Facts] in
theorem sepL_eq {α : Type} [DecidableEq α] (Φ : α → sProp 𝕄) (l : List α) (hl : l.Nodup) : sepL Φ l = bigSep l.toFinset Φ := by
  induction l with
  | nil => unfold sepL; rw [List.toFinset_nil, bigSep_empty]; rfl
  | cons x l ih =>
    rw [List.nodup_cons] at hl
    rw [List.toFinset_cons, bigSep_insert (by rw [List.mem_toFinset]; exact hl.1), ← ih hl.2]
    rfl

theorem hops_nodup : hops.Nodup := by decide
theorem allDevs_nodup : allDevs.Nodup := by decide
theorem hops_toFinset : hops.toFinset = Finset.univ.erase 0 := by decide
theorem allDevs_toFinset : allDevs.toFinset = Finset.univ := by decide
theorem hops_ne : ∀ s ∈ hops, s ≠ 0 := by decide

omit [FloatOps F] [Facts] in
theorem sepL_hops (Φ : Fin 32 → sProp 𝕄) : sepL Φ hops = bigSep (Finset.univ.erase 0) Φ := by
  rw [sepL_eq _ _ hops_nodup, hops_toFinset]
omit [FloatOps F] [Facts] in
theorem sepL_devs (Φ : Fin 32 → sProp 𝕄) : sepL Φ allDevs = bigSep Finset.univ Φ := by
  rw [sepL_eq _ _ allDevs_nodup, allDevs_toFinset]

/-- A loop: from `J` of the whole list and the resources of each element, to `J` of none and the results of each. -/
theorem wp_seqL {α : Type} (c : Dev nD) (f : α → TpuEff nD τ sig (Elt F) Λ₀ .tc PUnit) (J : List α → sProp 𝕄) (Φ Ψ : α → sProp 𝕄)
    (Q : PUnit → sProp 𝕄) (P : α → Prop)
    (step : ∀ x l (k : PUnit → Prog (TpuEff nD τ sig (Elt F) Λ₀ .tc) PUnit), P x →
      iprop(J (x :: l) ∗ Φ x) ⊢ iprop(((J l ∗ Ψ x) -∗ WP c (k ⟨⟩) Q) -∗ WP c (.op (f x) k) Q))
    (l : List α) (hl : ∀ x ∈ l, P x) (k : Prog (TpuEff nD τ sig (Elt F) Λ₀ .tc) PUnit) :
    iprop(J l ∗ sepL Φ l) ⊢ iprop(((J [] ∗ sepL Ψ l) -∗ WP c k Q) -∗ WP c (seqL f l k) Q) := by
  induction l with
  | nil =>
    unfold sepL seqL
    iintro H Hk
    iapply Hk
    iexact H
  | cons x l ih =>
    have ih' := ih (fun y hy => hl y (List.mem_cons_of_mem _ hy))
    unfold sepL seqL
    iintro ⟨HJ, Hx, Hl⟩ Hk
    iapply (step x l (fun _ => seqL f l k) (hl x List.mem_cons_self)) $$ [HJ Hx]
    · isplitl [HJ] <;> iassumption
    iintro ⟨HJ, Hx⟩
    iapply ih' $$ [HJ Hl]
    · isplitl [HJ] <;> iassumption
    iintro ⟨HJ, Hl⟩
    iapply Hk
    isplitl [HJ]; · iexact HJ
    isplitl [Hx] <;> iassumption

/-! ## The cells' invariants and reached marks -/

variable (m : (ℓ : Loc nD τ sig) → Buf (Elt F) ℓ) (ρ : Dev nD → PrngReg)

/-- The semaphores of a device, as this proof indexes them: the barrier, and the four arrays. -/
abbrev csem : Option (Fin 4 × Fin 32) → SemLoc sig
  | none => .reg barS
  | some js => .dma (dsem js.1 js.2)
abbrev kcell (ck : Dev nD × Option (Fin 4 × Fin 32)) : GSem nD τ sig := ((ck.1 : Thread nD τ), csem ck.2)

/-- Every cell's invariant, under the names `K`, and that every cell has reached round 0. -/
def records (K : Dev nD × Option (Fin 4 × Fin 32) → ℕ) : sProp 𝕄 :=
  iprop((bigSep Finset.univ fun ck : Dev nD × Option (Fin 4 × Fin 32) => cellInv ER (sched m ρ) (K ck) (kcell ck))
    ∗ bigSep Finset.univ fun ck : Dev nD × Option (Fin 4 × Fin 32) => reached ER (kcell ck) 0)

instance records_persistent (K : Dev nD × Option (Fin 4 × Fin 32) → ℕ) : BI.Persistent (records m ρ K) := by unfold records; infer_instance

/-- One member of a family over all cells. -/
theorem cell_elim (Φ : Dev nD × Option (Fin 4 × Fin 32) → sProp 𝕄) (ck : Dev nD × Option (Fin 4 × Fin 32)) : bigSep Finset.univ Φ ⊢ Φ ck :=
  bigSep_elim (Finset.mem_univ ck)

theorem inv_at (K : Dev nD × Option (Fin 4 × Fin 32) → ℕ) (ck : Dev nD × Option (Fin 4 × Fin 32)) :
    records m ρ K ⊢ cellInv ER (sched m ρ) (K ck) (kcell ck) := by
  unfold records
  iintro ⟨H, -⟩
  iapply (cell_elim (F := F) (fun ck => cellInv ER (sched m ρ) (K ck) (kcell ck)) ck)
  iexact H
theorem reached_at (K : Dev nD × Option (Fin 4 × Fin 32) → ℕ) (ck : Dev nD × Option (Fin 4 × Fin 32)) :
    records m ρ K ⊢ reached ER (kcell ck) 0 := by
  unfold records
  iintro ⟨-, H⟩
  iapply (cell_elim (F := F) (fun ck => reached ER (kcell ck) 0) ck)
  iexact H

variable (K : Dev nD × Option (Fin 4 × Fin 32) → ℕ)

/-- What every step may use: the records and the levels. -/
def known : sProp 𝕄 := iprop(records m ρ K ∗ levAts L lv)
instance known_persistent : BI.Persistent (known m ρ K) := by unfold known; infer_instance

/-- What a device owes, with some waits behind it. -/
def debt (c : Dev nD) (O : CellTallies nD τ sig Unit) : sProp 𝕄 := iprop(∃ W, owes (c : Thread nD τ) O W)

/-! ## One step of each kind -/

/-- A signal to device `d`'s barrier, with the slot that `d`'s transfer will fill. -/
theorem step_signal (c : Dev nD) (d : Fin 32) (O : CellTallies nD τ sig Unit) (Q : PUnit → sProp 𝕄)
    (k : PUnit → Prog (TpuEff nD τ sig (Elt F) Λ₀ .tc) PUnit) :
    iprop((known m ρ K ∗ debt c (O + barOwe d)) ∗ dutyTok ER (barCell d) 0 c ∗ barPay d c)
      ⊢ iprop((((known m ρ K ∗ debt c O) ∗ emp) -∗ WP c (k ⟨⟩) Q) -∗ WP c (.op (sigE d) k) Q) := by
  unfold known debt
  iintro ⟨⟨⟨#HR, #Hlev⟩, ⟨%W, HO⟩⟩, Ht, Hp⟩ Hk
  iapply (Rounds.wp_signal 𝒱₀ ER (sched m ρ) (c : Thread nD τ) none (dst := (d : Thread nD τ)) (κ := K (d, none))
      (d := c) (by rw [duties_bar]; exact Finset.mem_univ _) ((amount_bar m ρ d c).trans (by decide)) () O rfl) $$ [HO Ht Hp]
  · isplitr; · iapply (inv_at m ρ K (d, none)); iexact HR
    isplitl [HO]; · iexact HO
    isplitl [Ht]; · iexact Ht
    isplitl [Hp]; · rw [payload_bar]; iexact Hp
    iapply (reached_at m ρ K (d, none)); iexact HR
  iintro HO
  iapply Hk
  isplitl [HO]
  · isplitr
    · isplitr <;> iassumption
    iexists W; iexact HO
  iempintro

/-- A wait on the device's own DMA semaphore for a whole transfer, below what the device owes. -/
theorem step_wait (j : Fin 4) (c : Dev nD) (s : Fin 32) (hs : s ≠ 0) (O : CellTallies nD τ sig Unit) (n : ℕ)
    (hn : (if j.val = 1 then 2 else if j.val = 3 then 3 else 0) ≤ n) (hO : ∀ g u, 0 < O g u → g.1.2 = .tc ∧ n < lv g u)
    (w : TpuEff nD τ sig (Elt F) Λ₀ .tc PUnit)
    (hw : ∀ R : PUnit → sProp 𝕄, wpE (defs₀ (F := F)) 𝒱₀ (c : Thread nD τ) none Set.univ w R = waitSpec (c : Thread nD τ) Set.univ (.dma (dsem j s)) N R)
    (Q : PUnit → sProp 𝕄) (k : PUnit → Prog (TpuEff nD τ sig (Elt F) Λ₀ .tc) PUnit) :
    iprop((known m ρ K ∗ debt c O) ∗ cred (tallyAt (dcell j c s) () N) ∗ atPos ER (dcell j c s) 0 ∅ 0)
      ⊢ iprop((((known m ρ K ∗ debt c O) ∗ atPos ER (dcell j c s) 1 ∅ 0 ∗ landPay m ρ j.val c s) -∗ WP c (k ⟨⟩) Q) -∗ WP c (.op w k) Q) := by
  unfold known debt
  iintro ⟨⟨⟨#HR, #Hlev⟩, ⟨%W, HO⟩⟩, Hc, Hat⟩ Hk
  iapply (Rounds.wp_wait_rest_token 𝒱₀ ER (sched m ρ) (c : Thread nD τ) none (κ := K (c, some (j, s)))
      hw (Set.mem_univ _) () (O := O) (W := W) (R := 0) (m := 0) (T := ∅) (by rw [Nat.zero_add, expect_dma m ρ j c hs])) $$ [HO Hc Hat]
  · isplitr; · iapply (inv_at m ρ K (c, some (j, s))); iexact HR
    isplitl [Hc]; · iexact Hc
    isplitl [HO]; · iexact HO
    isplitr
    · iapply (mayWait c _ O n (by rw [lv_dma]; exact hn) hO); iexact Hlev
    iexact Hat
  iintro ⟨HO, Hat, -, Hp⟩
  ihave Hp := (Entails.of_eq (rest_dma m ρ j c hs)) $$ Hp
  iapply Hk
  isplitl [HO]
  · isplitr
    · isplitr <;> iassumption
    iexists _; iexact HO
  isplitl [Hat]; · iexact Hat
  iexact Hp

/-- The wait for every device's signal. -/
theorem step_barrier (c : Dev nD) (O : CellTallies nD τ sig Unit) (hO : ∀ g u, 0 < O g u → g.1.2 = .tc ∧ 1 < lv g u)
    (Q : PUnit → sProp 𝕄) (k : PUnit → Prog (TpuEff nD τ sig (Elt F) Λ₀ .tc) PUnit) :
    iprop((known m ρ K ∗ debt c O) ∗ cred (tallyAt (barCell c) () 32) ∗ atPos ER (barCell c) 0 ∅ 0)
      ⊢ iprop((((known m ρ K ∗ debt c O) ∗ atPos ER (barCell c) 1 ∅ 0 ∗ bigSep Finset.univ fun d => barPay (F := F) c d) -∗ WP c (k ⟨⟩) Q)
          -∗ WP c (.op (.semWait barS (32#32).toInt) k) Q) := by
  unfold known debt
  iintro ⟨⟨⟨#HR, #Hlev⟩, ⟨%W, HO⟩⟩, Hc, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [HO Hc Hat]
  · isplitr; · iapply (inv_at m ρ K (c, none)); iexact HR
    isplitl [Hc]; · iexact Hc
    isplitl [HO]; · iexact HO
    isplitr
    · iapply (mayWait c _ O 1 (by dsimp only [lv]; exact Nat.le_refl _) hO); iexact Hlev
    iexact Hat
  iintro ⟨HO, Hat, -, Hp⟩
  ihave Hp := (Entails.of_eq (rest_bar m ρ c)) $$ Hp
  iapply Hk
  isplitl [HO]
  · isplitr
    · isplitr <;> iassumption
    iexists _; iexact HO
  isplitl [Hat]; · iexact Hat
  iexact Hp

/-- Slot `s` on the device `s` places after `c`, once `c`'s transfer has landed. -/
theorem slot_landed (c : Dev nD) (s : Fin 32) :
    (slot s).view.read (Elt F) (parts m ρ (up c s)) = (rows (up c s)).view.read (Elt F) (own m ρ c) := by
  rw [slot_read, rows_read]
  funext x
  show own m ρ (dn (up c s) s) (ixO (rowOf (up c s) (x 0)) (x 1)) = _
  rw [dn_up]

/-- A transfer of the scatter: the rows of the target, into slot `s` there. -/
theorem step_scatter (c : Dev nD) (s : Fin 32) (hs : s ≠ 0) (dev : Dev nD) (hd : dev = up c s) (off : Fin 2 → ℕ)
    (h : ∀ a, off a + S16x512.size a ≤ S512x512.size a) (hoff : off = ![16 * (up c s).val, 0])
    (O : CellTallies nD τ sig Unit) (Q : PUnit → sProp 𝕄) (k : PUnit → Prog (TpuEff nD τ sig (Elt F) Λ₀ .tc) PUnit) :
    iprop((known m ρ K ∗ debt c (O + hopOwe 1 c s)) ∗ dutyTok ER (dcell 0 c s) 0 0 ∗ dutyTok ER (dcell 1 (up c s) s) 0 0
        ∗ rowPts c (up c s) (own m ρ c) ∗ ∃ f, slotPts (F := F) (up c s) s f)
      ⊢ iprop((((known m ρ K ∗ debt c O) ∗ cred (tallyAt (dcell 0 c s) () N)) -∗ WP c (k ⟨⟩) Q)
          -∗ WP c (.op (rsE oM rM cc0_scratch2 cc0_scratch3 dev off h s) k) Q) := by
  subst hd hoff
  unfold known debt rowPts slotPts
  iintro ⟨⟨⟨#HR, #Hlev⟩, ⟨%W, HO⟩⟩, Ht0, Ht1, Hrow, ⟨%fd, Hslot⟩⟩ Hk
  iapply (Rounds.wp_send_landing_pointsTo 𝒱₀ ER (sched m ρ) (c : Thread nD τ) none (κ₁ := K (c, some (0, s))) (κ₂ := K (up c s, some (1, s)))
      (c' := ((up c s : Dev nD) : Thread nD τ)) (src := rows (up c s)) (dst := slot s) (sS := .dma (dsem 0 s)) (sem := .dma (dsem 1 s))
      (r₁ := 0) (r₂ := 0) (d₁ := 0) (d₂ := 0) (fd := fd)
      (by rw [duties_dma m ρ 0 c hs]; exact Finset.mem_singleton_self _) (by rw [duties_dma m ρ 1 _ hs]; exact Finset.mem_singleton_self _)
      () () N rfl (amount_dma m ρ 0 c s 0) (amount_dma m ρ 1 (up c s) s 0) O rfl (W := W)
      (by rw [payload_dma]; exact BI.Entails.refl _)
      (by
        rw [payload_dma]
        show _ ⊢ iprop(slotPts (up c s) s (parts m ρ (up c s)) ∗ rowPts (dn (up c s) s) (up c s) (own m ρ (dn (up c s) s)))
        rw [dn_up]
        unfold slotPts rowPts
        exact sep_mono_left (Entails.of_eq (pointsTo_congr (write_eq_of_read (slot s).view fd (parts m ρ (up c s)) _ (slot_landed m ρ c s)))))) $$ [HO Ht0 Ht1 Hrow Hslot]
  · isplitr; · iapply (inv_at m ρ K (c, some (0, s))); iexact HR
    isplitr; · iapply (inv_at m ρ K (up c s, some (1, s))); iexact HR
    isplitl [Hrow]; · iexact Hrow
    isplitl [Hslot]; · iexact Hslot
    isplitl [HO]; · iexact HO
    isplitl [Ht0]; · iexact Ht0
    isplitr; · iapply (reached_at m ρ K (c, some (0, s))); iexact HR
    isplitl [Ht1]; · iexact Ht1
    iapply (reached_at m ρ K (up c s, some (1, s))); iexact HR
  iintro ⟨Hc, HO⟩
  iapply Hk
  isplitl [HO]
  · isplitr
    · isplitr <;> iassumption
    iexists W; iexact HO
  iexact Hc

/-- Device `c`'s rows of the result read as what it reduced. -/
theorem rows_result (c : Dev nD) : (rows c).view.read (Elt F) (result m ρ) = aM.view.read (Elt F) (reduced m ρ c) := by
  rw [rows_read]
  funext x
  show result m ρ (ixO (rowOf c (x 0)) (x 1)) = reduced m ρ c x
  have hx : (x 0).val < 16 := (x 0).isLt
  have h1 : (⟨(rowOf c (x 0)).val / 16, by have := (rowOf c (x 0)).isLt; omega⟩ : Fin 32) = c :=
    Fin.ext (by show (16 * c.val + (x 0).val) / 16 = c.val; omega)
  have h2 : (ixA ⟨(rowOf c (x 0)).val % 16, Nat.mod_lt _ (by decide)⟩ (x 1) : S16x512.Idx) = x := by
    funext a
    refine Fin.ext ?_
    match a with
    | ⟨0, _⟩ => show (16 * c.val + (x 0).val) % 16 = (x 0).val; omega
    | ⟨1, _⟩ => rfl
  show reduced m ρ ⟨(rowOf c (x 0)).val / 16, _⟩ (ixA ⟨(rowOf c (x 0)).val % 16, _⟩ (x 1)) = _
  rw [h1, h2]

/-- A transfer of the gather: the reduced rows, into the device's rows of the target's result. -/
theorem step_gather (c : Dev nD) (s : Fin 32) (hs : s ≠ 0) (dev : Dev nD) (hd : dev = up c s) (off : Fin 2 → ℕ)
    (h : ∀ a, off a + S16x512.size a ≤ S512x512.size a) (hoff : off = ![16 * c.val, 0])
    (O : CellTallies nD τ sig Unit) (Q : PUnit → sProp 𝕄) (k : PUnit → Prog (TpuEff nD τ sig (Elt F) Λ₀ .tc) PUnit) :
    iprop((known m ρ K ∗ debt c (O + hopOwe 3 c s)) ∗ dutyTok ER (dcell 2 c s) 0 0 ∗ dutyTok ER (dcell 3 (up c s) s) 0 0
        ∗ redPts m ρ c (tok s) ∗ ∃ f, rowPts (F := F) (up c s) c f)
      ⊢ iprop((((known m ρ K ∗ debt c O) ∗ cred (tallyAt (dcell 2 c s) () N)) -∗ WP c (k ⟨⟩) Q)
          -∗ WP c (.op (agE oM aM (Memref.isWhole_whole _) cc0_scratch4 cc0_scratch5 dev off h s) k) Q) := by
  subst hd hoff
  unfold known debt rowPts redPts
  iintro ⟨⟨⟨#HR, #Hlev⟩, ⟨%W, HO⟩⟩, Ht0, Ht1, Hred, ⟨%fd, Hrow⟩⟩ Hk
  iapply (Rounds.wp_send_pointsTo 𝒱₀ ER (sched m ρ) (c : Thread nD τ) none (κ₁ := K (c, some (2, s))) (κ₂ := K (up c s, some (3, s)))
      (c' := ((up c s : Dev nD) : Thread nD τ)) (src := aM) (dst := rows c) (sS := .dma (dsem 2 s)) (sem := .dma (dsem 3 s))
      (r₁ := 0) (r₂ := 0) (d₁ := 0) (d₂ := 0) (fd := fd)
      (by rw [duties_dma m ρ 2 c hs]; exact Finset.mem_singleton_self _) (by rw [duties_dma m ρ 3 _ hs]; exact Finset.mem_singleton_self _)
      () () N rfl (amount_dma m ρ 2 c s 0) (amount_dma m ρ 3 (up c s) s 0) O rfl (W := W)
      (by rw [payload_dma]; show _ ⊢ redPts m ρ c (tok s); unfold redPts; exact BI.Entails.refl _)
      (by
        rw [payload_dma]
        show _ ⊢ rowPts (up c s) (dn (up c s) s) (result m ρ)
        rw [dn_up]
        unfold rowPts
        exact Entails.of_eq (pointsTo_congr (write_eq_of_read (rows c).view fd (result m ρ) _ (rows_result m ρ c))))) $$ [HO Ht0 Ht1 Hrow Hred]
  · isplitr; · iapply (inv_at m ρ K (c, some (2, s))); iexact HR
    isplitr; · iapply (inv_at m ρ K (up c s, some (3, s))); iexact HR
    isplitl [Hred]; · iexact Hred
    isplitl [Hrow]; · iexact Hrow
    isplitl [HO]; · iexact HO
    isplitl [Ht0]; · iexact Ht0
    isplitr; · iapply (reached_at m ρ K (c, some (2, s))); iexact HR
    isplitl [Ht1]; · iexact Ht1
    iapply (reached_at m ρ K (up c s, some (3, s))); iexact HR
  iintro ⟨Hc, HO⟩
  iapply Hk
  isplitl [HO]
  · isplitr
    · isplitr <;> iassumption
    iexists W; iexact HO
  iexact Hc

end Cert.KernelIdeal.Moe

end
-- ==== Proof.Split.lean ====
/-
How the buffers come apart and together again: the result's buffer by devices' rows, the receive buffer by slots, the
reduced rows by shares; and the loads and stores of one device's rows and of slot 0.
-/
module

public import proofs.«01_k».proof.Proof.Loops
public import Idealize.ShloMosaic.Lib.Ring
public import Idealize.ShloMosaic.Lib.ValueLayout

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

/-- The hops that go to another device. -/
abbrev H : Finset (Fin 32) := Finset.univ.erase 0

theorem up_zero (c : Fin 32) : up c 0 = c := by revert c; decide
theorem up_ne (c : Fin 32) {s : Fin 32} (h : s ≠ 0) : up c s ≠ c := by revert c s; decide +kernel
theorem dn_ne (c : Fin 32) {s : Fin 32} (h : s ≠ 0) : dn c s ≠ c := by revert c s; decide +kernel

/-! ## Families over the devices, seen from one of them -/

omit [FloatOps F] in
/-- A family over the devices is the device's own member and those at each hop after it; -/
theorem around_up (c : Fin 32) (Φ : Fin 32 → sProp 𝕄) : bigSep Finset.univ Φ = iprop(Φ c ∗ bigSep H fun s => Φ (up c s)) := by
  rw [bigSep_univ_equiv (fromEquiv c) Φ, bigSep_univ_at _ 0]
  show iprop(Φ (up c 0) ∗ bigSep H fun s => Φ (up c s)) = _
  rw [up_zero]
omit [FloatOps F] in
/-- or at each hop before it; -/
theorem around_dn (c : Fin 32) (Φ : Fin 32 → sProp 𝕄) : bigSep Finset.univ Φ = iprop(Φ c ∗ bigSep H fun s => Φ (dn c s)) := by
  rw [bigSep_univ_equiv (toEquiv c) Φ, bigSep_univ_at _ 0]
  show iprop(Φ (dn c 0) ∗ bigSep H fun s => Φ (dn c s)) = _
  rw [dn_zero]
omit [FloatOps F] in
/-- so the others may be counted either way. -/
theorem others (c : Fin 32) (Φ : Fin 32 → sProp 𝕄) : (bigSep H fun s => Φ (dn c s)) ⊢ bigSep H fun s => Φ (up c s) := by
  have hd := around_dn c (fun d => if d = c then (iprop(emp) : sProp 𝕄) else Φ d)
  have hu := around_up c (fun d => if d = c then (iprop(emp) : sProp 𝕄) else Φ d)
  rw [hd] at hu
  have ed : (bigSep H fun s => if dn c s = c then (iprop(emp) : sProp 𝕄) else Φ (dn c s)) = bigSep H fun s => Φ (dn c s) :=
    bigSep_congr fun s hs => if_neg (dn_ne c (Finset.ne_of_mem_erase hs))
  have eu : (bigSep H fun s => if up c s = c then (iprop(emp) : sProp 𝕄) else Φ (up c s)) = bigSep H fun s => Φ (up c s) :=
    bigSep_congr fun s hs => if_neg (up_ne c (Finset.ne_of_mem_erase hs))
  rw [ed, eu] at hu
  iintro h
  ihave h2 := (Entails.of_eq hu) $$ [h]
  · isplitr; · rw [if_pos rfl]; iempintro
    iexact h
  icases h2 with ⟨-, h2⟩
  iexact h2

/-! ## The buffers by their pieces -/

/-- Their sets of indices. -/
abbrev rowsSet (d : Fin 32) : Finset S512x512.Idx := (rows d).view.set
abbrev slotSet (s : Fin 32) : Finset S32x16x512.Idx := (slot s).view.set

theorem rows_disjoint (d d' : Fin 32) (h : d ≠ d') : Disjoint (rowsSet d) (rowsSet d') :=
  Finset.disjoint_left.mpr fun i hi hi' => h (Fin.ext (((mem_rows d i).mp hi).symm.trans ((mem_rows d' i).mp hi')))
theorem rows_cover : Finset.univ.biUnion rowsSet = Finset.univ :=
  Finset.eq_univ_iff_forall.mpr fun i => Finset.mem_biUnion.mpr
    ⟨⟨(i 0).val / 16, by have : (i 0).val < 512 := (i 0).isLt; omega⟩, Finset.mem_univ _, (mem_rows _ i).mpr rfl⟩
theorem slot_disjoint (s s' : Fin 32) (h : s ≠ s') : Disjoint (slotSet s) (slotSet s') :=
  Finset.disjoint_left.mpr fun i hi hi' => h (Fin.ext (((mem_slot s i).mp hi).symm.trans ((mem_slot s' i).mp hi')))
theorem slot_cover : Finset.univ.biUnion slotSet = Finset.univ :=
  Finset.eq_univ_iff_forall.mpr fun i => Finset.mem_biUnion.mpr ⟨i 0, Finset.mem_univ _, (mem_slot _ i).mpr rfl⟩

omit [FloatOps F] in
theorem out_split (c : Dev nD) (f : S512x512.Idx → Elt F .f32) :
    ((c : Thread nD τ).loc cc0_stg4_0 ↦{fullShare} f : sProp 𝕄) = bigSep Finset.univ fun d => rowPts c d f :=
  Ring.pointsTo_blocks (ℓ := (c : Thread nD τ).loc cc0_stg4_0) rowsSet rows_disjoint rows_cover f
omit [FloatOps F] in
theorem recv_split (c : Dev nD) (f : S32x16x512.Idx → Elt F .f32) :
    ((c : Thread nD τ).loc cc0_scratch0 ↦{fullShare} f : sProp 𝕄) = bigSep Finset.univ fun s => slotPts c s f :=
  Ring.pointsTo_blocks (ℓ := (c : Thread nD τ).loc cc0_scratch0) slotSet slot_disjoint slot_cover f

/-! ## Loads and stores of the device's own rows and of slot 0 -/

variable [Facts] (m : (ℓ : Loc nD τ sig) → Buf (Elt F) ℓ) (ρ : Dev nD → PrngReg)

theorem load_rows (c : Dev nD) (off : Fin 2 → ℕ) (h : ∀ a, off a + S16x512.size a ≤ S512x512.size a) (hoff : off = ![16 * c.val, 0])
    {hl : oM.view.LoadsAt (Rect.unit (s := S512x512) off S16x512.size h).toLoadRect}
    (f : S512x512.Idx → Elt F .f32) (Q : PUnit → sProp 𝕄) (k : (S16x512.Idx → Elt F .f32) → Prog (TpuEff nD τ sig (Elt F) Λ₀ .tc) PUnit) :
    rowPts c c f ⊢ iprop((rowPts c c f -∗ WP c (k ((rows c).view.read (Elt F) f)) Q)
      -∗ WP c (.op (.load oM (Rect.unit (s := S512x512) off S16x512.size h).toLoadRect hl) k) Q) := by
  subst hoff
  exact wp_load_rect 𝒱₀ (c : Thread nD τ) none Set.univ (m := oM) (r := Rect.unit (s := S512x512) ![16 * c.val, 0] S16x512.size h) (hl := hl) (S := (rows c).view.set) (Finset.Subset.refl _)

/-- The device's rows of the result, stored. -/
theorem store_rows (c : Dev nD) (off : Fin 2 → ℕ) (h : ∀ a, off a + S16x512.size a ≤ S512x512.size a) (hoff : off = ![16 * c.val, 0])
    {hx : (oM.access (Rect.unit (s := S512x512) off S16x512.size h)).Stores Finset.univ} {hm}
    (f : S512x512.Idx → Elt F .f32) (Q : PUnit → sProp 𝕄) (k : PUnit → Prog (TpuEff nD τ sig (Elt F) Λ₀ .tc) PUnit) :
    rowPts c c f ⊢ iprop((rowPts c c (result m ρ) -∗ WP c (k ⟨⟩) Q)
      -∗ WP c (.op (.store oM (Rect.unit (s := S512x512) off S16x512.size h) (reduced m ρ c) Finset.univ hx hm) k) Q) := by
  subst hoff
  have h2 : ((rows c).view.loc (c : Thread nD τ) ↦[(rows c).view.set]{fullShare} ((rows c).view.write (Elt F) f (reduced m ρ c) Finset.univ) : sProp 𝕄)
      = rowPts c c (result m ρ) :=
    pointsTo_congr (write_eq_of_read (rows c).view f (result m ρ) _ (rows_result m ρ c))
  rw [← h2]
  unfold rowPts
  iintro H Hk
  iapply (wp_store 𝒱₀ (c : Thread nD τ) none Set.univ (m := oM) (r := Rect.unit (s := S512x512) ![16 * c.val, 0] S16x512.size h)
    (Mk := Finset.univ) (S := (rows c).view.set) (f := f) (Finset.Subset.refl _)) $$ [H]
  · iexact H
  iintro H
  iapply Hk
  iexact H

/-- Slot 0 as the loads and stores of it see it, of shape 1 by 16 by 512. -/
abbrev first (h : ∀ a, (![0, 0, 0] : Fin 3 → ℕ) a + S1x16x512.size a ≤ S32x16x512.size a) : View sig .tc .vmem S1x16x512 .f32 :=
  rM.access (Rect.unit (s := S32x16x512) ![0, 0, 0] S1x16x512.size h)

theorem first_emb (h) (y : S1x16x512.Idx) : (first h).emb y = ixR 0 (y 1) (y 2) := by
  have h0 : (y 0).val < 1 := (y 0).isLt
  funext a
  refine Fin.ext ?_
  match a with
  | ⟨0, _⟩ => show 0 + 1 * (y 0).val = 0; omega
  | ⟨1, _⟩ => show 0 + 1 * (y 1).val = (y 1).val; omega
  | ⟨2, _⟩ => show 0 + 1 * (y 2).val = (y 2).val; omega

theorem first_set (h) : (first h).set = (slot 0).view.set := by
  ext i
  rw [mem_slot]
  unfold View.set
  rw [Finset.mem_map]
  constructor
  · rintro ⟨x, -, rfl⟩
    rw [first_emb]
  · intro hi
    refine ⟨(fun | ⟨0, _⟩ => ⟨0, Nat.one_pos⟩ | ⟨1, _⟩ => i 1 | ⟨2, _⟩ => i 2 : S1x16x512.Idx), Finset.mem_univ _, ?_⟩
    rw [first_emb]
    funext a
    refine Fin.ext ?_
    match a with
    | ⟨0, _⟩ => exact hi.symm
    | ⟨1, _⟩ => rfl
    | ⟨2, _⟩ => rfl

theorem pay10_apply (v : S16x512.Idx → Elt F .f32) (y : S1x16x512.Idx) : k0_pay10 v y = v (ixA (y 1) (y 2)) := by
  have hy : y = ix3 (0 : Fin 1) (y 1 : Fin 16) (y 2 : Fin 512) := by
    funext a
    match a with
    | ⟨0, _⟩ => exact Fin.ext (by have : (y 0).val < 1 := (y 0).isLt; show (y 0).val = 0; omega)
    | ⟨1, _⟩ => rfl
    | ⟨2, _⟩ => rfl
  have hx : ∀ (a : Fin 16) (b : Fin 512), ixA a b = ix2 a b := fun a b => by
    funext i
    match i with
    | ⟨0, _⟩ => rfl
    | ⟨1, _⟩ => rfl
  refine Eq.trans ?_ (congrArg v (hx _ _)).symm
  conv_lhs => rw [hy]
  unfold k0_pay10
  rw [shapeCast_self]
  exact shapeCast_ab_1ab_apply v _ _ _ _

theorem first_read (h) (c : Dev nD) : (first h).read (Elt F) (parts m ρ c) = k0_pay10 ((rows c).view.read (Elt F) (own m ρ c)) := by
  funext y
  rw [pay10_apply, rows_read]
  show parts m ρ c ((first h).emb y) = _
  rw [first_emb]
  show own m ρ (dn c 0) _ = _
  rw [dn_zero]

theorem load_first (c : Dev nD) (h) {hl : rM.view.LoadsAt (Rect.unit (s := S32x16x512) ![0, 0, 0] S1x16x512.size h).toLoadRect}
    (f : S32x16x512.Idx → Elt F .f32) (Q : PUnit → sProp 𝕄) (k : (S1x16x512.Idx → Elt F .f32) → Prog (TpuEff nD τ sig (Elt F) Λ₀ .tc) PUnit) :
    slotPts c 0 f ⊢ iprop((slotPts c 0 f -∗ WP c (k ((first h).read (Elt F) f)) Q)
      -∗ WP c (.op (.load rM (Rect.unit (s := S32x16x512) ![0, 0, 0] S1x16x512.size h).toLoadRect hl) k) Q) :=
  wp_load_rect 𝒱₀ (c : Thread nD τ) none Set.univ (m := rM) (r := Rect.unit (s := S32x16x512) ![0, 0, 0] S1x16x512.size h) (hl := hl) (S := (slot 0).view.set)
    (Finset.subset_of_eq (first_set h))

/-- The device's own part, stored in slot 0. -/
theorem store_first (c : Dev nD) (h) {hx : (first h).Stores Finset.univ} {hm}
    (f : S32x16x512.Idx → Elt F .f32) (Q : PUnit → sProp 𝕄) (k : PUnit → Prog (TpuEff nD τ sig (Elt F) Λ₀ .tc) PUnit) :
    slotPts c 0 f ⊢ iprop((slotPts c 0 (parts m ρ c) -∗ WP c (k ⟨⟩) Q)
      -∗ WP c (.op (.store rM (Rect.unit (s := S32x16x512) ![0, 0, 0] S1x16x512.size h) (k0_pay10 ((rows c).view.read (Elt F) (own m ρ c))) Finset.univ hx hm) k) Q) := by
  have h2 : ((slot 0).view.loc (c : Thread nD τ) ↦[(slot 0).view.set]{fullShare} ((first h).write (Elt F) f (k0_pay10 ((rows c).view.read (Elt F) (own m ρ c))) Finset.univ) : sProp 𝕄)
      = slotPts c 0 (parts m ρ c) := by
    unfold slotPts
    rw [← first_set h]
    exact pointsTo_congr (write_eq_of_read (first h) f (parts m ρ c) _ (first_read m ρ h c))
  rw [← h2]
  unfold slotPts
  iintro H Hk
  iapply (wp_store 𝒱₀ (c : Thread nD τ) none Set.univ (m := rM) (r := Rect.unit (s := S32x16x512) ![0, 0, 0] S1x16x512.size h)
    (Mk := Finset.univ) (S := (slot 0).view.set) (f := f) (Finset.subset_of_eq (first_set h))) $$ [H]
  · iexact H
  iintro H
  iapply Hk
  iexact H

theorem pay12_eq (c : Dev nD) : k0_pay12 (parts m ρ c) = reduced m ρ c := by
  unfold k0_pay12 reduced
  dsimp only
  rw [shapeCast_self]

end Cert.KernelIdeal.Moe

end
-- ==== Proof.Body.lean ====
/-
The body, run once at a symbolic device: from the device's tokens, credits and buffers to the result in its buffer and
every own semaphore at zero.
-/
module

public import proofs.«01_k».proof.Proof.Split

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable [Facts] (m : (ℓ : Loc nD τ sig) → Buf (Elt F) ℓ) (ρ : Dev nD → PrngReg) (K : Dev nD × Option (Fin 4 × Fin 32) → ℕ)

/-! ## The loops -/

/-- A loop whose steps each pay what they owe. -/
theorem pay_loop {α : Type} (c : Dev nD) (g : α → CellTallies nD τ sig Unit) (ef : α → TpuEff nD τ sig (Elt F) Λ₀ .tc PUnit)
    (Φ Ψ : α → sProp 𝕄) (R : CellTallies nD τ sig Unit) (Q : PUnit → sProp 𝕄) (P : α → Prop)
    (step : ∀ s, P s → ∀ (O : CellTallies nD τ sig Unit) (k : PUnit → Prog (TpuEff nD τ sig (Elt F) Λ₀ .tc) PUnit),
      iprop((known m ρ K ∗ debt c (O + g s)) ∗ Φ s) ⊢ iprop((((known m ρ K ∗ debt c O) ∗ Ψ s) -∗ WP c (k ⟨⟩) Q) -∗ WP c (.op (ef s) k) Q))
    (l : List α) (hl : ∀ x ∈ l, P x) (k : Prog (TpuEff nD τ sig (Elt F) Λ₀ .tc) PUnit) :
    iprop((known m ρ K ∗ debt c (owing g l + R)) ∗ sepL Φ l)
      ⊢ iprop((((known m ρ K ∗ debt c R) ∗ sepL Ψ l) -∗ WP c k Q) -∗ WP c (seqL ef l k) Q) := by
  have h := wp_seqL c ef (fun l => iprop(known m ρ K ∗ debt c (owing g l + R))) Φ Ψ Q P
    (fun x l k hx => by
      have e : owing g (x :: l) + R = (owing g l + R) + g x := add_right_comm _ _ _
      rw [e]
      exact step x hx (owing g l + R) k) l hl k
  have e : owing g [] + R = R := zero_add _
  rw [e] at h
  exact h

/-- A loop over the hops, each paying. -/
theorem hop_loop (c : Dev nD) (g : Fin 32 → CellTallies nD τ sig Unit) (ef : Fin 32 → TpuEff nD τ sig (Elt F) Λ₀ .tc PUnit)
    (Φ Ψ : Fin 32 → sProp 𝕄) (R : CellTallies nD τ sig Unit) (Q : PUnit → sProp 𝕄)
    (step : ∀ s, s ≠ 0 → ∀ (O : CellTallies nD τ sig Unit) (k : PUnit → Prog (TpuEff nD τ sig (Elt F) Λ₀ .tc) PUnit),
      iprop((known m ρ K ∗ debt c (O + g s)) ∗ Φ s) ⊢ iprop((((known m ρ K ∗ debt c O) ∗ Ψ s) -∗ WP c (k ⟨⟩) Q) -∗ WP c (.op (ef s) k) Q))
    (k : Prog (TpuEff nD τ sig (Elt F) Λ₀ .tc) PUnit) :
    iprop((known m ρ K ∗ debt c (owing g hops + R)) ∗ bigSep H Φ)
      ⊢ iprop((((known m ρ K ∗ debt c R) ∗ bigSep H Ψ) -∗ WP c k Q) -∗ WP c (seqL ef hops k) Q) := by
  rw [← sepL_hops Φ, ← sepL_hops Ψ]
  exact pay_loop m ρ K c g ef Φ Ψ R Q (fun s => s ≠ 0) step hops hops_ne k

/-- A loop of waits over the hops, on one of the semaphore arrays. -/
theorem wait_loop (j : Fin 4) (c : Dev nD) (O : CellTallies nD τ sig Unit) (n : ℕ)
    (hn : (if j.val = 1 then 2 else if j.val = 3 then 3 else 0) ≤ n) (hO : ∀ g u, 0 < O g u → g.1.2 = .tc ∧ n < lv g u)
    (ef : Fin 32 → TpuEff nD τ sig (Elt F) Λ₀ .tc PUnit)
    (hw : ∀ s (R : PUnit → sProp 𝕄), wpE (defs₀ (F := F)) 𝒱₀ (c : Thread nD τ) none Set.univ (ef s) R = waitSpec (c : Thread nD τ) Set.univ (.dma (dsem j s)) N R)
    (Q : PUnit → sProp 𝕄) (k : Prog (TpuEff nD τ sig (Elt F) Λ₀ .tc) PUnit) :
    iprop((known m ρ K ∗ debt c O) ∗ (bigSep H fun s => cred (tallyAt (dcell j c s) () N)) ∗ bigSep H fun s => atPos ER (dcell j c s) 0 ∅ 0)
      ⊢ iprop((((known m ρ K ∗ debt c O) ∗ (bigSep H fun s => atPos ER (dcell j c s) 1 ∅ 0) ∗ bigSep H fun s => landPay m ρ j.val c s) -∗ WP c k Q)
          -∗ WP c (seqL ef hops k) Q) := by
  rw [← bigSep_sep', ← bigSep_sep', ← sepL_hops, ← sepL_hops]
  exact wp_seqL c ef (fun _ => iprop(known m ρ K ∗ debt c O)) _ _ Q (fun s => s ≠ 0)
    (fun s l k hs => step_wait m ρ K j c s hs O n hn hO (ef s) (hw s) Q k) hops hops_ne k

/-! ## The reduced rows by shares -/

/-- What is kept of the reduced rows while the gather's transfers read them. -/
def redKept (c : Dev nD) : sProp 𝕄 :=
  iprop(((c : Thread nD τ).loc cc0_scratch1 ↦{Transfers.shareDrop fullShare 32} reduced m ρ c) ∗ redPts m ρ c (tok 0))

theorem red_split (c : Dev nD) : ((c : Thread nD τ).loc cc0_scratch1 ↦{fullShare} reduced m ρ c : sProp 𝕄)
    ⊣⊢ iprop(redKept m ρ c ∗ bigSep H fun s => redPts m ρ c (tok s)) := by
  have h := Transfers.pointsTo_toks (nD := nD) (τ := τ) (sig := sig) (Ix := Unit) (Val := Elt F) (Name := ℕ) (U := UU) (Lvl := ℕ)
    (ℓ := (c : Thread nD τ).loc cc0_scratch1) (S := Finset.univ) (f := reduced m ρ c) fullShare 32
  rw [bigSep_univ_at _ (0 : Fin 32)] at h
  have e : ∀ q, redPts m ρ c q = ((c : Thread nD τ).loc cc0_scratch1 ↦[Finset.univ]{q} reduced m ρ c : sProp 𝕄) := fun q => by
    unfold redPts
    rw [show (aM.view.set : Finset S16x512.Idx) = Finset.univ from View.set_whole _]
  unfold redKept
  simp only [e]
  refine ⟨h.1.trans ?_, BIBase.Entails.trans ?_ h.2⟩
  · iintro ⟨A, B, C⟩
    isplitl [A B]
    · isplitl [A] <;> iassumption
    iexact C
  · iintro ⟨⟨A, B⟩, C⟩
    isplitl [A]; · iexact A
    isplitl [B] <;> iassumption

/-! ## The exchange -/

theorem land1 (c : Dev nD) (s : Fin 32) : landPay m ρ (1 : Fin 4).val c s = iprop(slotPts c s (parts m ρ c) ∗ rowPts (dn c s) c (own m ρ (dn c s))) := rfl
theorem land2 (c : Dev nD) (s : Fin 32) : landPay m ρ (2 : Fin 4).val c s = redPts m ρ c (tok s) := rfl
theorem land3 (c : Dev nD) (s : Fin 32) : landPay m ρ (3 : Fin 4).val c s = rowPts c (dn c s) (result m ρ) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The hops' tokens, positions and credits of device `c`. -/
def hopGhost (c : Dev nD) : sProp 𝕄 :=
  iprop(((bigSep H fun s => dutyTok ER (dcell 0 c s) 0 0) ∗ (bigSep H fun s => dutyTok ER (dcell 1 (up c s) s) 0 0)
      ∗ (bigSep H fun s => dutyTok ER (dcell 2 c s) 0 0) ∗ bigSep H fun s => dutyTok ER (dcell 3 (up c s) s) 0 0)
    ∗ ((bigSep H fun s => cred (tallyAt (dcell 1 c s) () N)) ∗ bigSep H fun s => cred (tallyAt (dcell 3 c s) () N)))

/-- The positions of device `c` at the hops' semaphores, in round `r`. -/
def hopAt (c : Dev nD) (r : ℕ) : sProp 𝕄 :=
  iprop((bigSep H fun s => atPos ER (dcell 0 c s) r ∅ 0) ∗ (bigSep H fun s => atPos ER (dcell 1 c s) r ∅ 0)
    ∗ (bigSep H fun s => atPos ER (dcell 2 c s) r ∅ 0) ∗ bigSep H fun s => atPos ER (dcell 3 c s) r ∅ 0)

set_option maxHeartbeats 1600000 in
/-- The gather: from the reduced rows to the whole result. -/
theorem wp_gather (c : Dev nD) (f0 : S32x16x512.Idx → Elt F .f32) (ga : (cc0_scratch1 : Ref sig .tc).ty.Contents (Elt F)) (Q : PUnit → sProp 𝕄) :
    iprop((known m ρ K ∗ debt c (owing (hopOwe 3 c) hops))
        ∗ rowPts c c (own m ρ c) ∗ slotPts c 0 f0 ∗ (bigSep H fun s => slotPts c s (parts m ρ c))
        ∗ ((c : Thread nD τ).loc cc0_scratch1 ↦{fullShare} ga) ∗ (bigSep H fun s => iprop(∃ f, rowPts (F := F) (up c s) c f))
        ∗ ((bigSep H fun s => dutyTok ER (dcell 2 c s) 0 0) ∗ bigSep H fun s => dutyTok ER (dcell 3 (up c s) s) 0 0)
        ∗ (bigSep H fun s => cred (tallyAt (dcell 3 c s) () N))
        ∗ (bigSep H fun s => atPos ER (dcell 2 c s) 0 ∅ 0) ∗ bigSep H fun s => atPos ER (dcell 3 c s) 0 ∅ 0)
      ⊢ iprop((((known m ρ K ∗ debt c 0)
            ∗ ((c : Thread nD τ).loc cc0_stg4_0 ↦{fullShare} result m ρ)
            ∗ ((c : Thread nD τ).loc cc0_scratch0 ↦{fullShare} parts m ρ c)
            ∗ ((c : Thread nD τ).loc cc0_scratch1 ↦{fullShare} reduced m ρ c)
            ∗ (bigSep H fun s => atPos ER (dcell 2 c s) 1 ∅ 0) ∗ bigSep H fun s => atPos ER (dcell 3 c s) 1 ∅ 0) -∗ WP c (.ret ⟨⟩) Q)
          -∗ WP c (reduceGather oM rM aM (Memref.isWhole_whole _) cc0_scratch4 cc0_scratch5 c) Q) := by
  iintro ⟨HJ, Hrow, Hs0, Hslots, Ha, Hdst, ⟨Ht2, Ht3⟩, Hc3, Hat2, Hat3⟩ Hk
  unfold reduceGather
  iapply (load_rows c _ _ (off2_eq c) (own m ρ c) Q) $$ Hrow
  iintro Hrow
  iapply (load_first c _ f0 Q) $$ Hs0
  iintro Hs0
  iapply (store_first m ρ c _ f0 Q) $$ Hs0
  iintro Hs0
  ihave Hr := (Entails.of_eq ((bigSep_univ_at (fun s => slotPts c s (parts m ρ c)) 0).symm.trans (recv_split c (parts m ρ c)).symm)) $$ [Hs0 Hslots]
  · isplitl [Hs0] <;> iassumption
  iapply (wp_load 𝒱₀ (c : Thread nD τ) none Set.univ (m := rM) (Finset.subset_univ _)) $$ Hr
  iintro Hr
  rw [show rM.view.readAt (Elt F) (Rect.unit (s := S32x16x512) ![0, 0, 0] S32x16x512.size inb_S32x16x512_S32x16x512_0_0_0).toLoadRect (parts m ρ c) = parts m ρ c
    from Memref.readAt_unit_zero (Elt F) cc0_scratch0 hz3 _ _]
  iapply (wp_load 𝒱₀ (c : Thread nD τ) none Set.univ (m := aM) (Finset.subset_univ _)) $$ Ha
  iintro Ha
  iapply (wp_store 𝒱₀ (c : Thread nD τ) none Set.univ (m := aM) (r := Rect.unit (s := S16x512) ![0, 0] S16x512.size inb_S16x512_S16x512_0_0)
    (Mk := Finset.univ) (Finset.subset_univ _)) $$ Ha
  iintro Ha
  rw [pay12_eq, show k0_pay11 (parts m ρ c) = reduced m ρ c from rfl]
  ihave Ha := (Entails.of_eq (congrArg (fun f : (cc0_scratch1 : Ref sig .tc).ty.Contents (Elt F) => ((c : Thread nD τ).loc cc0_scratch1 ↦{fullShare} f : sProp 𝕄))
    (Memref.write_access_unit_zero_univ (Elt F) cc0_scratch1 hz2 inb_S16x512_S16x512_0_0 ga (reduced m ρ c)))) $$ Ha
  ihave Ha := (red_split m ρ c).1 $$ Ha
  icases Ha with ⟨Hkept, Hred⟩
  have hs := hop_loop m ρ K c (hopOwe 3 c)
    (fun s : Fin 32 => agE oM aM (Memref.isWhole_whole _) cc0_scratch4 cc0_scratch5 (⟨devW c (BitVec.ofNat 32 s.val), devW_lt c s⟩ : Dev nD) (k0_off3 c) (k0_off3_inb c) s)
    (fun s => iprop(dutyTok ER (dcell 2 c s) 0 0 ∗ dutyTok ER (dcell 3 (up c s) s) 0 0 ∗ redPts m ρ c (tok s) ∗ ∃ f, rowPts (F := F) (up c s) c f))
    (fun s => cred (tallyAt (dcell 2 c s) () N)) 0 Q
    (fun s hs O k => step_gather m ρ K c s hs _ (Fin.ext (devW_eq c s)) _ _ (off3_eq c) O Q k)
    (ownRows oM aM (Memref.isWhole_whole _) cc0_scratch4 cc0_scratch5 c (reduced m ρ c))
  simp only [bigSep_sep', add_zero] at hs
  iapply hs $$ [HJ Ht2 Ht3 Hred Hdst]
  · isplitl [HJ]; · iexact HJ
    isplitl [Ht2]; · iexact Ht2
    isplitl [Ht3]; · iexact Ht3
    isplitl [Hred] <;> iassumption
  iintro ⟨HJ, Hc2⟩
  unfold ownRows
  iapply (load_rows c _ _ (off2_eq c) (own m ρ c) Q) $$ Hrow
  iintro Hrow
  iapply (store_rows m ρ c _ _ (off2_eq c) (own m ρ c) Q) $$ Hrow
  iintro Hrow
  unfold waitsAG
  iapply (wait_loop m ρ K 3 c 0 3 (by decide) (fun g u h => absurd h (Nat.lt_irrefl 0))
    (fun s : Fin 32 => agRecvE oM aM (Memref.isWhole_whole _) cc0_scratch5 (k0_off3 c) (k0_off3_inb c) s)
    (fun s R => wpE_waitDma2_eq 𝒱₀ (c : Thread nD τ) none Set.univ R) Q) $$ [HJ Hc3 Hat3]
  · isplitl [HJ]; · iexact HJ
    isplitl [Hc3] <;> iassumption
  iintro ⟨HJ, Hat3, Hp3⟩
  iapply (wait_loop m ρ K 2 c 0 3 (by decide) (fun g u h => absurd h (Nat.lt_irrefl 0))
    (fun s : Fin 32 => agSentE oM aM (Memref.isWhole_whole _) cc0_scratch4 (k0_off3 c) (k0_off3_inb c) s)
    (fun s R => wpE_waitDma2_eq 𝒱₀ (c : Thread nD τ) none Set.univ R) Q) $$ [HJ Hc2 Hat2]
  · isplitl [HJ]; · iexact HJ
    isplitl [Hc2] <;> iassumption
  iintro ⟨HJ, Hat2, Hp2⟩
  simp only [land2, land3]
  ihave Ho := (Entails.of_eq ((around_dn c (fun d => rowPts c d (result m ρ))).symm.trans (out_split c (result m ρ)).symm)) $$ [Hrow Hp3]
  · isplitl [Hrow] <;> iassumption
  ihave Ha := (red_split m ρ c).2 $$ [Hkept Hp2]
  · isplitl [Hkept] <;> iassumption
  iapply Hk
  isplitl [HJ]; · iexact HJ
  isplitl [Ho]; · iexact Ho
  isplitl [Hr]; · iexact Hr
  isplitl [Ha]; · iexact Ha
  isplitl [Hat2] <;> iassumption

theorem row_some (c : Dev nD) (s : Fin 32) (g : S512x512.Idx → Elt F .f32) : rowPts (dn c s) c g ⊢ (iprop(∃ f, rowPts (F := F) (dn c s) c f) : sProp 𝕄) := by
  iintro h
  iexists g
  iexact h

set_option maxHeartbeats 1600000 in
/-- The whole exchange, from the device's own sum. -/
theorem wp_exchange (c : Dev nD) (f0 : S32x16x512.Idx → Elt F .f32) (ga : (cc0_scratch1 : Ref sig .tc).ty.Contents (Elt F)) (Q : PUnit → sProp 𝕄) :
    iprop((known m ρ K ∗ debt c (owing (hopOwe 1 c) hops + owing (hopOwe 3 c) hops))
        ∗ ((c : Thread nD τ).loc cc0_stg4_0 ↦{fullShare} own m ρ c) ∗ slotPts c 0 f0 ∗ (bigSep H fun s => iprop(∃ f, slotPts (F := F) (up c s) s f))
        ∗ ((c : Thread nD τ).loc cc0_scratch1 ↦{fullShare} ga) ∗ hopGhost c ∗ hopAt c 0)
      ⊢ iprop((((known m ρ K ∗ debt c 0)
            ∗ ((c : Thread nD τ).loc cc0_stg4_0 ↦{fullShare} result m ρ)
            ∗ ((c : Thread nD τ).loc cc0_scratch0 ↦{fullShare} parts m ρ c)
            ∗ ((c : Thread nD τ).loc cc0_scratch1 ↦{fullShare} reduced m ρ c)
            ∗ hopAt c 1) -∗ WP c (.ret ⟨⟩) Q)
          -∗ WP c (scatter oM rM aM (Memref.isWhole_whole _) cc0_scratch2 cc0_scratch3 cc0_scratch4 cc0_scratch5 c) Q) := by
  unfold hopGhost hopAt
  iintro ⟨HJ, Ho, Hs0, Hdst, Ha, ⟨⟨Ht0, Ht1, Ht2, Ht3⟩, Hc1, Hc3⟩, Hat0, Hat1, Hat2, Hat3⟩ Hk
  ihave Ho := (Entails.of_eq ((out_split c (own m ρ c)).trans (around_up c (fun d => rowPts c d (own m ρ c))))) $$ Ho
  icases Ho with ⟨Hrow, Hrows⟩
  unfold scatter
  have hs := hop_loop m ρ K c (hopOwe 1 c)
    (fun s : Fin 32 => rsE oM rM cc0_scratch2 cc0_scratch3 (⟨devW c (BitVec.ofNat 32 s.val), devW_lt c s⟩ : Dev nD) (k0_off1 c (BitVec.ofNat 32 s.val)) (off1_inb c s) s)
    (fun s => iprop(dutyTok ER (dcell 0 c s) 0 0 ∗ dutyTok ER (dcell 1 (up c s) s) 0 0 ∗ rowPts c (up c s) (own m ρ c) ∗ ∃ f, slotPts (F := F) (up c s) s f))
    (fun s => cred (tallyAt (dcell 0 c s) () N)) (owing (hopOwe 3 c) hops) Q
    (fun s hs O k => step_scatter m ρ K c s hs _ (Fin.ext (devW_eq c s)) _ _ (off1_eq c s) O Q k)
  simp only [bigSep_sep'] at hs
  iapply (hs _) $$ [HJ Ht0 Ht1 Hrows Hdst]
  · isplitl [HJ]; · iexact HJ
    isplitl [Ht0]; · iexact Ht0
    isplitl [Ht1]; · iexact Ht1
    isplitl [Hrows] <;> iassumption
  iintro ⟨HJ, Hc0⟩
  iapply (wait_loop m ρ K 1 c _ 2 (by decide) (owes_above_scatter c)
    (fun s : Fin 32 => rsRecvE oM rM cc0_scratch3 (k0_off1 c (BitVec.ofNat 32 s.val)) (off1_inb c s) s)
    (fun s R => wpE_waitDma2_eq 𝒱₀ (c : Thread nD τ) none Set.univ R) Q) $$ [HJ Hc1 Hat1]
  · isplitl [HJ]; · iexact HJ
    isplitl [Hc1] <;> iassumption
  iintro ⟨HJ, Hat1, Hp1⟩
  iapply (wait_loop m ρ K 0 c _ 2 (by decide) (owes_above_scatter c)
    (fun s : Fin 32 => rsSentE oM rM cc0_scratch2 (k0_off1 c (BitVec.ofNat 32 s.val)) (off1_inb c s) s)
    (fun s R => wpE_waitDma2_eq 𝒱₀ (c : Thread nD τ) none Set.univ R) Q) $$ [HJ Hc0 Hat0]
  · isplitl [HJ]; · iexact HJ
    isplitl [Hc0] <;> iassumption
  iintro ⟨HJ, Hat0, -⟩
  simp only [land1, bigSep_sep']
  icases Hp1 with ⟨Hslots, Hland⟩
  have hd : (bigSep H fun s => rowPts (dn c s) c (own m ρ (dn c s)) : sProp 𝕄) ⊢ bigSep H fun s => iprop(∃ f, rowPts (F := F) (up c s) c f) :=
    BIBase.Entails.trans (bigSep_mono (fun s _ => row_some c s (own m ρ (dn c s)))) (others c (fun d => iprop(∃ f, rowPts (F := F) d c f)))
  ihave Hland := hd $$ Hland
  iapply (wp_gather m ρ K c f0 ga Q) $$ [HJ Hrow Hs0 Hslots Ha Hland Ht2 Ht3 Hc3 Hat2 Hat3]
  · isplitl [HJ]; · iexact HJ
    isplitl [Hrow]; · iexact Hrow
    isplitl [Hs0]; · iexact Hs0
    isplitl [Hslots]; · iexact Hslots
    isplitl [Ha]; · iexact Ha
    isplitl [Hland]; · iexact Hland
    isplitl [Ht2 Ht3]; · isplitl [Ht2] <;> iassumption
    isplitl [Hc3]; · iexact Hc3
    isplitl [Hat2] <;> iassumption
  iintro ⟨HJ, Ho, Hr, Ha, Hat2, Hat3⟩
  iapply Hk
  isplitl [HJ]; · iexact HJ
  isplitl [Ho]; · iexact Ho
  isplitl [Hr]; · iexact Hr
  isplitl [Ha]; · iexact Ha
  isplitl [Hat0]; · iexact Hat0
  isplitl [Hat1]; · iexact Hat1
  isplitl [Hat2] <;> iassumption

end Cert.KernelIdeal.Moe

end
-- ==== Proof.Whole.lean ====
/-
The body from the launch's resources to its results, and the library's obligation for it.
-/
module

public import proofs.«01_k».proof.Proof.Body
public import proofs.«01_k».proof.Proof.Gen.KernelIdeal.Points

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over a device's cells -/

omit [FloatOps F] in
/-- A family over a device's semaphores: the barrier's and those of the arrays. -/
theorem cells_split (Φ : Option (Fin 4 × Fin 32) → sProp 𝕄) :
    bigSep Finset.univ Φ = iprop(Φ none ∗ bigSep Finset.univ fun js => Φ (some js)) := by
  have e : (Finset.univ.erase none : Finset (Option (Fin 4 × Fin 32))) = Finset.univ.map Function.Embedding.some := by
    ext k
    cases k <;> simp
  rw [bigSep_univ_at _ none, e, bigSep_map]
  rfl

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A family over the arrays: their places 0, and the hops of each. -/
theorem hops_split (Φ : Fin 4 × Fin 32 → sProp 𝕄) :
    bigSep Finset.univ Φ = iprop((bigSep Finset.univ fun j => Φ (j, 0))
      ∗ (bigSep H fun s => Φ (0, s)) ∗ (bigSep H fun s => Φ (1, s)) ∗ (bigSep H fun s => Φ (2, s)) ∗ bigSep H fun s => Φ (3, s)) := by
  rw [bigSep_univ_prod, ← four (fun j => bigSep H fun s => Φ (j, s)), ← bigSep_sep']
  exact bigSep_congr fun j _ => bigSep_univ_at _ 0

/-- The round in which a cell ends, all others being in round `r`: the arrays' places 0 have no round. -/
def roundAt (r : ℕ) : Option (Fin 4 × Fin 32) → ℕ
  | none => r
  | some js => if js.2 = 0 then 0 else r

theorem roundAt_zero (k : Option (Fin 4 × Fin 32)) : roundAt 0 k = 0 := by
  unfold roundAt; split <;> first | rfl | exact ite_self _

/-- The positions of device `c` at all its cells. -/
def posAt (c : Dev nD) (r : ℕ) : sProp 𝕄 :=
  bigSep Finset.univ fun k => atPos ER (kcell (c, k)) (roundAt r k) ∅ 0

omit [FloatOps F] in
theorem posAt_eq [Facts] (c : Dev nD) (r : ℕ) : posAt (F := F) c r = iprop(atPos ER (barCell c) r ∅ 0
    ∗ (bigSep Finset.univ fun j => atPos ER (dcell j c 0) 0 ∅ 0) ∗ hopAt c r) := by
  unfold posAt hopAt
  rw [cells_split, hops_split]
  have e (j : Fin 4) : (bigSep H fun s => atPos ER (kcell (c, some (j, s))) (roundAt r (some (j, s))) ∅ 0 : sProp 𝕄)
      = bigSep H fun s => atPos ER (dcell j c s) r ∅ 0 :=
    bigSep_congr fun s hs => by
      show (atPos ER (dcell j c s) (if s = 0 then 0 else r) ∅ 0 : sProp 𝕄) = _
      rw [if_neg (Finset.ne_of_mem_erase hs)]
  rw [e 0, e 1, e 2, e 3]
  rfl

variable [Facts] (m : (ℓ : Loc nD τ sig) → Buf (Elt F) ℓ) (ρ : Dev nD → PrngReg)

/-- Every cell of device `c` closes: its counter at zero is the device's again. -/
theorem close_all (K : Dev nD × Option (Fin 4 × Fin 32) → ℕ) (c : Dev nD) :
    iprop(records m ρ K ∗ posAt c 1) ⊢ iprop(|={Set.univ}=> bigSep Finset.univ fun k => semVal (kcell (c, k)) 0) := by
  unfold posAt
  refine BIBase.Entails.trans (bigSep_with_persistent (R := records m ρ K)
    (Ψ := fun k => iprop(|={Set.univ}=> semVal (kcell (c, k)) 0)) fun k _ => ?_) (bigSep_fupd _ _)
  iintro ⟨#HR, Hat⟩
  iapply (Rounds.cell_close ER (sched m ρ) (Set.mem_univ (K (c, k))) (fun h => h) (R := roundAt 1 k) (by
    match k with
    | none => exact duties_later m ρ (barCell c)
    | some (j, s) =>
      intro r hr
      by_cases hs : s = 0
      · subst hs; exact duties_zero m ρ j c r
      · exact duties_later m ρ (dcell j c s) r (by unfold roundAt at hr; dsimp only at hr; rw [if_neg hs] at hr; exact hr)))
  isplitr; · iapply (inv_at m ρ K (c, k)); iexact HR
  iexact Hat

/-! ## The pipeline's proof data -/

/-- The tokens of the duties that device `c` pays. -/
def payToks (c : Dev nD) : sProp 𝕄 :=
  iprop((bigSep Finset.univ fun d => dutyTok ER (barCell d) 0 c)
    ∗ (bigSep H fun s => dutyTok ER (dcell 0 c s) 0 0) ∗ (bigSep H fun s => dutyTok ER (dcell 1 (up c s) s) 0 0)
    ∗ (bigSep H fun s => dutyTok ER (dcell 2 c s) 0 0) ∗ bigSep H fun s => dutyTok ER (dcell 3 (up c s) s) 0 0)

/-- What the launch gives device `c` of the protocol. -/
def ghost (c : Dev nD) : sProp 𝕄 := iprop(∃ K, records m ρ K ∗ posAt c 0 ∗ payToks c)

/-- The credits that device `c` holds at launch. -/
def credits (c : Dev nD) : sProp 𝕄 :=
  iprop(cred (tallyAt (barCell c) () 32) ∗ (bigSep H fun s => cred (tallyAt (dcell 1 c s) () N)) ∗ bigSep H fun s => cred (tallyAt (dcell 3 c s) () N))

def start (c : Dev nD) : sProp 𝕄 := iprop(ghost m ρ c ∗ credits c ∗ levAts L lv)

def Φ₀ (c : Dev nD) : sProp 𝕄 :=
  iprop(start m ρ c ∗ (∃ f, (c : Thread nD τ).loc cc0_scratch0 ↦{fullShare} f) ∗ ∃ f, (c : Thread nD τ).loc cc0_scratch1 ↦{fullShare} f)
def Φ₁ (c : Dev nD) : sProp 𝕄 :=
  iprop(((c : Thread nD τ).loc cc0_scratch0 ↦{fullShare} parts m ρ c) ∗ ((c : Thread nD τ).loc cc0_scratch1 ↦{fullShare} reduced m ρ c)
    ∗ bigSep Finset.univ fun k => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m ρ c
    | ⟨1, _⟩ => stgG m ρ c
    | ⟨2, _⟩ => stgI m ρ c
    | ⟨3, _⟩ => stgW m ρ c
    | ⟨4, _⟩ => result m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

omit [FloatOps F] [Facts] in
theorem some_slot (c : Dev nD) (s : Fin 32) (f : S32x16x512.Idx → Elt F .f32) : slotPts c s f ⊢ (iprop(∃ f, slotPts (F := F) c s f) : sProp 𝕄) := by
  iintro h
  iexists f
  iexact h

/-- The device's loads of its blocks, and its own sum stored. -/
theorem own_eq (c : Dev nD) : partialOf c
    (xM.view.readAt (Elt F) (Rect.unit (s := S512x256) ![0, 0] S512x256.size inb_S512x256_S512x256_0_0).toLoadRect (stgX m ρ c))
    (gM.view.readAt (Elt F) (Rect.unit (s := S256x64) ![0, 0] S256x64.size inb_S256x64_S256x64_0_0).toLoadRect (stgG m ρ c))
    (iM.view.readAt (Elt F) (Rect.unit (s := S512x2) ![0, 0] S512x1.size inb_S512x2_S512x1_0_0).toLoadRect (stgI m ρ c))
    (iM.view.readAt (Elt F) (Rect.unit (s := S512x2) ![0, 1] S512x1.size inb_S512x2_S512x1_0_1).toLoadRect (stgI m ρ c))
    (wM.view.readAt (Elt F) (Rect.unit (s := S2x256x512) ![0, 0, 0] S1x256x512.size inb_S2x256x512_S1x256x512_0_0_0).toLoadRect (stgW m ρ c))
    (wM.view.readAt (Elt F) (Rect.unit (s := S2x256x512) ![1, 0, 0] S1x256x512.size inb_S2x256x512_S1x256x512_1_0_0).toLoadRect (stgW m ρ c))
    = own m ρ c := rfl

omit [FloatOps F] [Facts] in
/-- What device `d` hands device `c` at the barrier, when they are `s` apart. -/
theorem barPay_at (c d s : Fin 32) (h : gap c d = s) : barPay (F := F) c d = iprop(∃ f, slotPts (F := F) d s f) := by
  subst h
  rfl

theorem wp_device (c : Dev nD) (k : Dev nD → Prog (TpuEff nD τ sig (Elt F) Λ₀ .tc) PUnit) (Q : PUnit → sProp 𝕄) :
    WP c (.op .deviceId k) Q = WP c (k c) Q := by
  unfold WP
  rw [wp_deviceId]

set_option maxHeartbeats 1600000 in
/-- The body from device `c`'s resources. -/
theorem sound_body (c : Dev nD) (go : (cc0_stg4_0 : Ref sig .tc).ty.Contents (Elt F)) (fr : S32x16x512.Idx → Elt F .f32)
    (ga : (cc0_scratch1 : Ref sig .tc).ty.Contents (Elt F)) (Q : PUnit → sProp 𝕄) :
    iprop((start m ρ c ∗ debt c (O₀ c))
        ∗ (((c : Thread nD τ).loc cc0_scratch0 ↦{fullShare} fr) ∗ ((c : Thread nD τ).loc cc0_scratch1 ↦{fullShare} ga))
        ∗ ((c : Thread nD τ).loc cc0_stg0_0 ↦{fullShare} stgX m ρ c) ∗ ((c : Thread nD τ).loc cc0_stg1_0 ↦{fullShare} stgG m ρ c)
        ∗ ((c : Thread nD τ).loc cc0_stg2_0 ↦{fullShare} stgI m ρ c) ∗ ((c : Thread nD τ).loc cc0_stg3_0 ↦{fullShare} stgW m ρ c)
        ∗ ((c : Thread nD τ).loc cc0_stg4_0 ↦{fullShare} go))
      ⊢ iprop(((Φ₁ m ρ c ∗ debt c 0
            ∗ ((c : Thread nD τ).loc cc0_stg0_0 ↦{fullShare} stgX m ρ c) ∗ ((c : Thread nD τ).loc cc0_stg1_0 ↦{fullShare} stgG m ρ c)
            ∗ ((c : Thread nD τ).loc cc0_stg2_0 ↦{fullShare} stgI m ρ c) ∗ ((c : Thread nD τ).loc cc0_stg3_0 ↦{fullShare} stgW m ρ c)
            ∗ ((c : Thread nD τ).loc cc0_stg4_0 ↦{fullShare} result m ρ)) -∗ Q ⟨⟩)
          -∗ WP c (cc0_body (F := F) xM (Memref.isWhole_whole _) gM (Memref.isWhole_whole _) iM (Memref.isWhole_whole _) wM (Memref.isWhole_whole _)
              oM (Memref.isWhole_whole _) rM (Memref.isWhole_whole _) aM (Memref.isWhole_whole _) cc0_scratch2 cc0_scratch3 cc0_scratch4 cc0_scratch5) Q) := by
  rw [body_eq]
  unfold start ghost credits payToks
  rw [posAt_eq]
  iintro ⟨⟨⟨⟨%K, #HR, ⟨HatB, Hat0, Hat⟩, Htb, Ht0, Ht1, Ht2, Ht3⟩, ⟨HcB, Hc1, Hc3⟩, #Hlev⟩, HO⟩, ⟨Hr, Ha⟩, Hx, Hg, Hi, Hw, Ho⟩ Hk
  unfold body
  rw [wp_device]
  have h := pay_loop m ρ K c barOwe (fun (d : Fin 32) => sigE d) (fun d => iprop(dutyTok ER (barCell d) 0 c ∗ barPay (F := F) d c)) (fun _ => iprop(emp))
    (owing (hopOwe 1 c) hops + owing (hopOwe 3 c) hops) Q (fun _ => True) (fun d _ O k => step_signal m ρ K c d O Q k) allDevs (fun _ _ => trivial)
  rw [sepL_devs, sepL_devs, bigSep_sep'] at h
  have hslots : ((c : Thread nD τ).loc cc0_scratch0 ↦{fullShare} fr : sProp 𝕄) ⊢ bigSep Finset.univ fun d => barPay (F := F) d c := by
    rw [recv_split c fr, bigSep_univ_equiv (toEquiv c).symm]
    refine bigSep_mono fun d _ => ?_
    unfold barPay
    exact some_slot c (gap d c) fr
  ihave Hp := hslots $$ Hr
  iapply (h _) $$ [HO Htb Hp]
  · isplitl [HO]
    · unfold known
      isplitr
      · isplitr <;> iassumption
      iexact HO
    isplitl [Htb] <;> iassumption
  iintro ⟨HJ, -⟩
  iapply (step_barrier m ρ K c _ (owes_above_bar c) Q) $$ [HJ HcB HatB]
  · isplitl [HJ]; · iexact HJ
    isplitl [HcB] <;> iassumption
  iintro ⟨HJ, HatB, Hp⟩
  have hp : (bigSep Finset.univ fun d => barPay (F := F) c d) ⊢ iprop((∃ f, slotPts (F := F) c 0 f) ∗ bigSep H fun s => iprop(∃ f, slotPts (F := F) (up c s) s f)) := by
    have e0 : gap c c = 0 := by have := gap_up c 0; rwa [up_zero] at this
    have e : (bigSep H fun s => barPay (F := F) c (up c s)) = bigSep H fun s => iprop(∃ f, slotPts (F := F) (up c s) s f) :=
      bigSep_congr fun s _ => barPay_at c _ s (gap_up c s)
    rw [around_up c, e, barPay_at c c 0 e0]
  ihave Hp := hp $$ Hp
  icases Hp with ⟨⟨%f0, Hs0⟩, Hdst⟩
  unfold compute
  iapply (wp_load 𝒱₀ (c : Thread nD τ) none Set.univ (m := xM) (Finset.subset_univ _)) $$ Hx
  iintro Hx
  iapply (wp_load 𝒱₀ (c : Thread nD τ) none Set.univ (m := gM) (Finset.subset_univ _)) $$ Hg
  iintro Hg
  iapply (wp_load 𝒱₀ (c : Thread nD τ) none Set.univ (m := iM) (Finset.subset_univ _)) $$ Hi
  iintro Hi
  iapply (wp_load 𝒱₀ (c : Thread nD τ) none Set.univ (m := iM) (Finset.subset_univ _)) $$ Hi
  iintro Hi
  iapply (wp_load 𝒱₀ (c : Thread nD τ) none Set.univ (m := wM) (Finset.subset_univ _)) $$ Hw
  iintro Hw
  iapply (wp_load 𝒱₀ (c : Thread nD τ) none Set.univ (m := wM) (Finset.subset_univ _)) $$ Hw
  iintro Hw
  rw [own_eq]
  iapply (wp_load 𝒱₀ (c : Thread nD τ) none Set.univ (m := oM) (Finset.subset_univ _)) $$ Ho
  iintro Ho
  iapply (wp_store 𝒱₀ (c : Thread nD τ) none Set.univ (m := oM) (r := Rect.unit (s := S512x512) ![0, 0] S512x512.size inb_S512x512_S512x512_0_0)
    (Mk := Finset.univ) (Finset.subset_univ _)) $$ Ho
  iintro Ho
  ihave Ho := (Entails.of_eq (congrArg (fun f : (cc0_stg4_0 : Ref sig .tc).ty.Contents (Elt F) => ((c : Thread nD τ).loc cc0_stg4_0 ↦{fullShare} f : sProp 𝕄))
    (Memref.write_access_unit_zero_univ (Elt F) cc0_stg4_0 hz2 inb_S512x512_S512x512_0_0 go (own m ρ c)))) $$ Ho
  iapply (wp_exchange m ρ K c f0 ga Q) $$ [HJ Ho Hs0 Hdst Ha Ht0 Ht1 Ht2 Ht3 Hc1 Hc3 Hat]
  · isplitl [HJ]; · iexact HJ
    isplitl [Ho]; · iexact Ho
    isplitl [Hs0]; · iexact Hs0
    isplitl [Hdst]; · iexact Hdst
    isplitl [Ha]; · iexact Ha
    unfold hopGhost
    isplitr [Hat]
    · isplitl [Ht0 Ht1 Ht2 Ht3]
      · isplitl [Ht0]; · iexact Ht0
        isplitl [Ht1]; · iexact Ht1
        isplitl [Ht2] <;> iassumption
      isplitl [Hc1] <;> iassumption
    iexact Hat
  iintro ⟨⟨-, HO⟩, Ho, Hr, Ha, Hat⟩
  ihave Hpos := (Entails.of_eq (posAt_eq (F := F) c 1).symm) $$ [HatB Hat0 Hat]
  · isplitl [HatB]; · iexact HatB
    isplitl [Hat0] <;> iassumption
  imod (close_all m ρ K c) $$ [Hpos] with Hz
  · isplitr; · iexact HR
    iexact Hpos
  rw [wp_ret]
  imodintro
  iapply Hk
  unfold Φ₁
  isplitl [Hr Ha Hz]
  · isplitl [Hr]; · iexact Hr
    isplitl [Ha] <;> iassumption
  isplitl [HO]; · iexact HO
  isplitl [Hx]; · iexact Hx
  isplitl [Hg]; · iexact Hg
  isplitl [Hi]; · iexact Hi
  isplitl [Hw] <;> iassumption

/-- What the launch runs on a device is the body on its staging buffers and scratches. -/
theorem body_at : defs₀ (F := F) Proc.tc 0 (t0_0, cfg0.slots t0_0) = cc0_body (F := F) xM (Memref.isWhole_whole _) gM (Memref.isWhole_whole _) iM (Memref.isWhole_whole _) wM (Memref.isWhole_whole _)
      oM (Memref.isWhole_whole _) rM (Memref.isWhole_whole _) aM (Memref.isWhole_whole _) cc0_scratch2 cc0_scratch3 cc0_scratch4 cc0_scratch5 := rfl
set_option maxRecDepth 4000 in
/-- The library's obligation for the body on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  rw [body_at, show (dats m ρ 0 c).Φ t0_0.castSucc = Φ₀ m ρ c from rfl, show (dats m ρ 0 c).Φ t0_0.succ = Φ₁ m ρ c from rfl,
    show (dats m ρ 0 c).after 0 t0_0 = stgX m ρ c from rfl, show (dats m ρ 0 c).after 1 t0_0 = stgG m ρ c from rfl,
    show (dats m ρ 0 c).after 2 t0_0 = stgI m ρ c from rfl, show (dats m ρ 0 c).after 3 t0_0 = stgW m ρ c from rfl,
    show (dats m ρ 0 c).after 4 t0_0 = result m ρ from rfl]
  unfold Φ₀
  iintro ⟨⟨Hst, ⟨%fr, Hr⟩, ⟨%ga, Ha⟩⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have h0 : g0 = stgX m ρ c := by rw [hg0]; unfold Dat.before; rw [if_pos (fetch0_0 t0_0)]; rfl
  have h1 : g1 = stgG m ρ c := by rw [hg1]; unfold Dat.before; rw [if_pos (fetch0_1 t0_0)]; rfl
  have h2 : g2 = stgI m ρ c := by rw [hg2]; unfold Dat.before; rw [if_pos (fetch0_2 t0_0)]; rfl
  have h3 : g3 = stgW m ρ c := by rw [hg3]; unfold Dat.before; rw [if_pos (fetch0_3 t0_0)]; rfl
  subst h0 h1 h2 h3
  unfold Dat.owesAt Pipeline.owesWithin
  icases Ho with ⟨%W, %hW, HO⟩
  rw [show (dats m ρ 0 c).owed t0_0.castSucc = O₀ c from rfl]
  iapply (sound_body m ρ c g4 fr ga _) $$ [Hst Hr Ha HO H0 H1 H2 H3 H4]
  · isplitl [Hst HO]
    · isplitl [Hst]; · iexact Hst
      unfold debt; iexists W; iexact HO
    isplitl [Hr Ha]; · isplitl [Hr] <;> iassumption
    isplitl [H0]; · iexact H0
    isplitl [H1]; · iexact H1
    isplitl [H2]; · iexact H2
    isplitl [H3] <;> iassumption
  iintro ⟨HΦ, HO, H0, H1, H2, H3, H4⟩
  unfold debt
  rw [show (dats m ρ 0 c).owed t0_0.succ = 0 from rfl]
  icases HO with ⟨%W', HO⟩
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

end Cert.KernelIdeal.Moe

end
-- ==== Proof.Launch.lean ====
/-
The launch: the protocol's ghost state funded and dealt around the mesh, what each device may wait for, and the run of
the whole program.
-/
module

public import proofs.«01_k».proof.Proof.Whole
public import Idealize.ShloMosaic.Lib.Pipeline.CollectiveSegs

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's semaphores -/

/-- The kernel's own semaphores: the four arrays. -/
abbrev osem (js : Fin 4 × Fin 32) : SemLoc sig := .dma (dsem js.1 js.2)

theorem osem_inj : Function.Injective osem := by
  rintro ⟨j, s⟩ ⟨j', s'⟩ h
  obtain ⟨h1, h2⟩ := dsem_inj (SemLoc.dma.inj h)
  subst h1 h2
  rfl

theorem stage_sem_small (w : Fin cfg0.W) (s : Fin (cfg0.spec w).nbuf) : ((cfg0.spec w).sem s).val < 5 := by revert w s; decide

theorem ownSemFacts : Pipeline.OwnSemFacts cfg0.spec osem where
  isScoped := by decide +kernel
  inj := osem_inj
  disj := fun k w s h => by
    have h1 := congrArg Fin.val (SemLoc.dma.inj h)
    rw [dsem_val] at h1
    have := stage_sem_small w s
    omega

theorem kcell_inj : Function.Injective kcell := by
  rintro ⟨c, k⟩ ⟨c', k'⟩ h
  match k, k' with
  | none, none =>
    have h1 : c = c' := barCell_iff.mp h
    subst h1; rfl
  | none, some (j, s) => exact absurd h bar_ne_dcell
  | some (j, s), none => exact absurd h.symm bar_ne_dcell
  | some (j, s), some (j', s') =>
    obtain ⟨h1, h2, h3⟩ := dcell_iff.mp h
    subst h1 h2 h3
    rfl

theorem csem_inj : Function.Injective csem := fun k k' h =>
  congrArg Prod.snd (kcell_inj (a₁ := ((0 : Dev nD), k)) (a₂ := ((0 : Dev nD), k')) (by unfold kcell; rw [h]))

/-! ## Families over the devices -/

omit [FloatOps F] in
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1), bigSep_univ_equiv (Equiv.prodComm B A)]
  rfl

omit [FloatOps F] in
theorem bigSep_opt {A : Type} [Fintype A] [DecidableEq A] (Φ : Option A → sProp 𝕄) :
    bigSep Finset.univ Φ = iprop(Φ none ∗ bigSep Finset.univ fun a => Φ (some a)) := by
  have e : (Finset.univ.erase none : Finset (Option A)) = Finset.univ.map Function.Embedding.some := by
    ext k
    cases k <;> simp
  rw [bigSep_univ_at _ none, e, bigSep_map]
  rfl

omit [FloatOps F] in
/-- Each device's item at hop `s`, dealt to the device `s` places before it. -/
theorem dealt (T : Dev nD → Fin 32 → sProp 𝕄) :
    (bigSep Finset.univ fun c => bigSep Finset.univ fun s => T c s) = bigSep Finset.univ fun c => bigSep Finset.univ fun s => T (up c s) s := by
  rw [bigSep_swap, bigSep_swap (fun c s => T (up c s) s)]
  exact bigSep_congr fun s _ => bigSep_univ_equiv (upEquiv s) (fun c => T c s)

omit [FloatOps F] in
/-- A family over all hops holds one over those that are not 0. -/
theorem drop_zero (Φ : Fin 32 → sProp 𝕄) : bigSep Finset.univ Φ ⊢ bigSep H Φ := BI.bigSep_subset (Finset.erase_subset _ _)

/-! ## The ghost state -/

variable [Facts] (m : (ℓ : Loc nD τ sig) → Buf (Elt F) ℓ) (ρ : Dev nD → PrngReg)

theorem share_eq (c : Dev nD) (w : Fin cfg0.W) : (dats m ρ 0 c).share w = fullShare := by unfold Dat.share; split <;> rfl

def cellsAll : Finset (GSem nD τ sig) := Finset.univ.map ⟨kcell, kcell_inj⟩

/-- The duties' tokens as minted: the barrier's, one for each payer, and one of every semaphore of the arrays. -/
abbrev tokOf (x : Dev nD × Option (Fin 4) × Fin 32) : GSem nD τ sig × ℕ × Fin 32 := match x.2.1 with
  | none => (barCell x.1, 0, x.2.2)
  | some j => (dcell j x.1 x.2.2, 0, 0)

omit [Facts] in
theorem tokOf_inj : Function.Injective tokOf := by
  rintro ⟨c, j, d⟩ ⟨c', j', d'⟩ h
  match j, j' with
  | none, none =>
    have h1 : c = c' := barCell_iff.mp (congrArg Prod.fst h)
    have h2 : d = d' := congrArg (fun x : GSem nD τ sig × ℕ × Fin 32 => x.2.2) h
    subst h1 h2; rfl
  | none, some j' => exact absurd (congrArg Prod.fst h) bar_ne_dcell
  | some j, none => exact absurd (congrArg Prod.fst h).symm bar_ne_dcell
  | some j, some j' =>
    obtain ⟨h1, h2, h3⟩ := dcell_iff.mp (congrArg Prod.fst h)
    subst h1 h2 h3; rfl

def toksAll : Finset (GSem nD τ sig × ℕ × Fin 32) := Finset.univ.map ⟨tokOf, tokOf_inj⟩

def u₀ : UU := (initOf (Pipeline.cells cfgs cellOf_inj) (Pipeline.launchToks cfgs cellOf_inj), initOf cellsAll toksAll)

/-- The tokens of device `c`'s own cells. -/
def toks (c : Dev nD) : sProp 𝕄 :=
  iprop((bigSep Finset.univ fun d => dutyTok ER (barCell c) 0 d) ∗ bigSep Finset.univ fun j => bigSep Finset.univ fun s => dutyTok ER (dcell j c s) 0 0)

/-- What is minted for device `c`. -/
def G (c : Dev nD) : sProp 𝕄 :=
  iprop((bigSep Finset.univ fun k => roundState ER (sched m ρ) (kcell (c, k)) 0)
    ∗ (bigSep Finset.univ fun k => iprop(atPos ER (kcell (c, k)) 0 ∅ 0 ∗ reached ER (kcell (c, k)) 0)) ∗ toks c)

theorem fund_all : BI.own (ER (initOf cellsAll toksAll)) ⊢ (|==> bigSep Finset.univ (G m ρ) : sProp 𝕄) := by
  have hX (Φ : GSem nD τ sig → sProp 𝕄) : bigSep cellsAll Φ = bigSep Finset.univ fun c : Dev nD => bigSep Finset.univ fun k => Φ (kcell (c, k)) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => by unfold toks; rw [bigSep_univ_prod, bigSep_opt]; rfl
  iintro HX
  imod (Rounds.fund ER (sched m ρ) cellsAll toksAll) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] [Facts] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] [Facts] in
theorem sems_eq (c : Dev nD) : (bigSep Finset.univ fun k => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, cells_split]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  have hv := Entails.of_eq (sems_eq (F := F) c).symm
  unfold G
  iintro ⟨Hos, Hus, Hst, Hat, Htok⟩
  ihave Hv := hv $$ [Hos Hus]
  · isplitl [Hus] <;> iassumption
  imod (show iprop((bigSep Finset.univ fun k => semVal (kcell (c, k)) 0) ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Option (Fin 4 × Fin 32) → ℕ) (c : Dev nD) :
    iprop(records m ρ K ∗ (bigSep Finset.univ fun k => atPos ER (kcell (c, k)) 0 ∅ 0) ∗ payToks c) ⊢ ghost m ρ c := by
  have e : posAt (F := F) c 0 = bigSep Finset.univ fun k => atPos ER (kcell (c, k)) 0 ∅ 0 := by
    unfold posAt; exact bigSep_congr fun k _ => by rw [roundAt_zero]
  unfold ghost
  rw [e]
  iintro H
  iexists K
  iexact H

omit [FloatOps F] in
/-- The tokens dealt around: a landing's to the device that sends there, a barrier duty's to the one that signals. -/
theorem toks_around : (bigSep Finset.univ fun c : Dev nD => (toks c : sProp 𝕄)) ⊢ bigSep Finset.univ fun c : Dev nD => payToks c := by
  have e (c : Dev nD) : (bigSep Finset.univ fun j => bigSep Finset.univ fun s => dutyTok ER (dcell j c s) 0 0 : sProp 𝕄)
      = iprop((bigSep Finset.univ fun s => dutyTok ER (dcell 0 c s) 0 0) ∗ (bigSep Finset.univ fun s => dutyTok ER (dcell 1 c s) 0 0)
        ∗ (bigSep Finset.univ fun s => dutyTok ER (dcell 2 c s) 0 0) ∗ bigSep Finset.univ fun s => dutyTok ER (dcell 3 c s) 0 0) := four _
  have d (Φ : Dev nD → Fin 32 → sProp 𝕄) : (bigSep Finset.univ fun c => bigSep Finset.univ (Φ c)) ⊢ bigSep Finset.univ fun c => bigSep H (Φ c) :=
    bigSep_mono fun c _ => drop_zero (Φ c)
  have d0 := d (fun c s => dutyTok ER (dcell 0 c s) 0 0)
  have d1 := (Entails.of_eq (dealt (fun c s => (dutyTok ER (dcell 1 c s) 0 0 : sProp 𝕄)))).trans (d (fun c s => dutyTok ER (dcell 1 (up c s) s) 0 0))
  have d2 := d (fun c s => dutyTok ER (dcell 2 c s) 0 0)
  have d3 := (Entails.of_eq (dealt (fun c s => (dutyTok ER (dcell 3 c s) 0 0 : sProp 𝕄)))).trans (d (fun c s => dutyTok ER (dcell 3 (up c s) s) 0 0))
  have db := Entails.of_eq (bigSep_swap (fun c d : Dev nD => (dutyTok ER (barCell c) 0 d : sProp 𝕄)))
  unfold toks payToks
  simp only [e, bigSep_sep']
  iintro ⟨HB, H0, H1, H2, H3⟩
  isplitl [HB]; · iapply db; iexact HB
  isplitl [H0]; · iapply d0; iexact H0
  isplitl [H1]; · iapply d1; iexact H1
  isplitl [H2]; · iapply d2; iexact H2
  iapply d3; iexact H3

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m ρ) := by
  rw [bigSep_sep', bigSep_sep', ← bigSep_univ_prod (fun ck : Dev nD × Option (Fin 4 × Fin 32) => iprop(∃ κ : ℕ, cellInv ER (sched m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Fin 4 × Fin 32) => (reached ER (kcell ck) 0 : sProp 𝕄))]
  iintro ⟨HI, ⟨Hat, #HR⟩, Htok⟩
  ihave HK := (BI.bigSep_exists_pi Finset.univ (fun (ck : Dev nD × Option (Fin 4 × Fin 32)) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · iexact Hat
    iexact Htk

/-- The step over all devices at once: their semaphores become the protocol's. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credits -/

omit [Facts] in
theorem owing_sum {α : Type} [DecidableEq α] (f : α → CellTallies nD τ sig Unit) (g : GSem nD τ sig) (u : Unit) :
    ∀ l : List α, l.Nodup → owing f l g u = ∑ x ∈ l.toFinset, f x g u
  | [], _ => rfl
  | x :: l, h => by
    rw [List.toFinset_cons, Finset.sum_insert (by simpa using (List.nodup_cons.mp h).1), ← owing_sum f g u l (List.nodup_cons.mp h).2, Nat.add_comm]
    rfl

omit [Facts] in
theorem hops_sum (j : Fin 4) (d : Dev nD) (g : GSem nD τ sig) (u : Unit) : owing (hopOwe j d) hops g u = ∑ s ∈ H, hopOwe j d s g u := by
  rw [owing_sum _ _ _ _ hops_nodup, hops_toFinset]

omit [Facts] in
/-- Every device owes every barrier one unit. -/
theorem owed_bar (d c : Dev nD) : O₀ d (barCell c) () = 1 := by
  have h1 : ∀ j : Fin 4, owing (hopOwe j d) hops (barCell c) () = 0 := fun j => by
    rw [hops_sum]
    exact Finset.sum_eq_zero fun s _ => by unfold hopOwe; rw [tallyAt_ne_cell bar_ne_dcell]; rfl
  show owing barOwe allDevs (barCell c) () + (owing (hopOwe 1 d) hops (barCell c) () + owing (hopOwe 3 d) hops (barCell c) ()) = 1
  rw [h1, h1, owing_sum _ _ _ _ allDevs_nodup, allDevs_toFinset, Finset.sum_eq_single c]
  · unfold barOwe; rw [tallyAt_apply, if_pos ⟨rfl, rfl⟩]
  · intro b _ hb
    unfold barOwe
    rw [tallyAt_apply, if_neg fun h => hb (barCell_iff.mp h.1).symm]
  · exact fun h => absurd (Finset.mem_univ _) h

omit [Facts] in
/-- A landing's semaphore is owed by the device that sends there alone. -/
theorem hop_at (j j' : Fin 4) (d c : Dev nD) (s : Fin 32) (hs : s ≠ 0) :
    owing (hopOwe j' d) hops (dcell j c s) () = if j = j' ∧ d = dn c s then N else 0 := by
  rw [hops_sum, Finset.sum_eq_single s]
  · unfold hopOwe
    rw [tallyAt_apply]
    refine if_congr ⟨fun h => ?_, fun h => ?_⟩ rfl rfl
    · obtain ⟨h1, h2, -⟩ := dcell_iff.mp h.1
      exact ⟨h1, by rw [h2, dn_up]⟩
    · obtain ⟨rfl, rfl⟩ := h
      exact ⟨by rw [up_dn], rfl⟩
  · intro b _ hb
    unfold hopOwe
    rw [tallyAt_apply, if_neg fun h => hb (dcell_iff.mp h.1).2.2.symm]
  · exact fun h => absurd (Finset.mem_erase.mpr ⟨hs, Finset.mem_univ _⟩) h

omit [Facts] in
theorem owed_dma (j : Fin 4) (hj : j = 1 ∨ j = 3) (d c : Dev nD) (s : Fin 32) (hs : s ≠ 0) : O₀ d (dcell j c s) () = if d = dn c s then N else 0 := by
  have h0 : owing barOwe allDevs (dcell j c s) () = 0 := by
    rw [owing_sum _ _ _ _ allDevs_nodup]
    exact Finset.sum_eq_zero fun b _ => by unfold barOwe; rw [tallyAt_ne_cell bar_ne_dcell.symm]; rfl
  show owing barOwe allDevs (dcell j c s) () + (owing (hopOwe 1 d) hops (dcell j c s) () + owing (hopOwe 3 d) hops (dcell j c s) ()) = _
  rw [h0, hop_at _ _ _ _ _ hs, hop_at _ _ _ _ _ hs]
  rcases hj with rfl | rfl <;> simp

omit [FloatOps F] [Facts] in
theorem launch_bar (c : Dev nD) :
    tallyOn (barCell c) (launchCredit (Pipeline.owing O₀) 0 (barCell c)) = (tallyAt (barCell c) () 32 : CellTallies nD τ sig Unit) := by
  unfold tallyAt; refine congrArg _ (Finsupp.ext fun u => ?_); cases u
  rw [Pipeline.launchCredit_owing, Finsupp.single_eq_same, Finset.sum_congr rfl fun d _ => owed_bar d c]
  simp

omit [FloatOps F] [Facts] in
theorem launch_dma (j : Fin 4) (hj : j = 1 ∨ j = 3) (c : Dev nD) (s : Fin 32) (hs : s ≠ 0) :
    tallyOn (dcell j c s) (launchCredit (Pipeline.owing O₀) 0 (dcell j c s)) = (tallyAt (dcell j c s) () N : CellTallies nD τ sig Unit) := by
  unfold tallyAt; refine congrArg _ (Finsupp.ext fun u => ?_); cases u
  rw [Pipeline.launchCredit_owing, Finsupp.single_eq_same, Finset.sum_congr rfl fun d _ => owed_dma j hj d c s hs,
    Finset.sum_ite_eq' Finset.univ (dn c s) fun _ => N, if_pos (Finset.mem_univ _)]

omit [FloatOps F] [Facts] in
theorem creds (c : Dev nD) : (Pipeline.launchCred O₀ c : sProp 𝕄) ⊢ credits c := by
  have hsub : (bigSep Finset.univ fun sm : SemLoc sig => cred (tallyOn ((c : Thread nD τ), sm) (launchCredit (Pipeline.owing O₀) 0 ((c : Thread nD τ), sm))) : sProp 𝕄)
      ⊢ bigSep Finset.univ fun k => cred (tallyOn (kcell (c, k)) (launchCredit (Pipeline.owing O₀) 0 (kcell (c, k)))) :=
    (BI.bigSep_subset (Finset.subset_univ (Finset.univ.map ⟨csem, csem_inj⟩))).trans (Entails.of_eq (bigSep_map _))
  have hj (j : Fin 4) (hj : j = 1 ∨ j = 3) : (bigSep H fun s => cred (tallyOn (kcell (c, some (j, s))) (launchCredit (Pipeline.owing O₀) 0 (kcell (c, some (j, s))))) : sProp 𝕄)
      = bigSep H fun s => cred (tallyAt (dcell j c s) () N) :=
    bigSep_congr fun s hs => congrArg _ (launch_dma j hj c s (Finset.ne_of_mem_erase hs))
  unfold credits
  rw [← hj 1 (Or.inl rfl), ← hj 3 (Or.inr rfl), ← launch_bar]
  refine BIBase.Entails.trans hsub ?_
  rw [cells_split, hops_split]
  iintro ⟨HB, -, -, H1, -, H3⟩
  isplitl [HB]; · iexact HB
  isplitl [H1] <;> iassumption

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr, Ha⟩
  isplitl [Hs]; · iexact Hs
  isplitl [Hr] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems_eq]
  iintro ⟨Hr, Ha, HB, Hz⟩
  isplitl [HB]; · iexact HB
  isplitl [Hz]; · iexact Hz
  isplitl [Hr]
  · iexists _; iexact Hr
  iexists _; iexact Ha

theorem waits (c : Dev nD) : (levAts L lv : sProp 𝕄) ⊢ Pipeline.cellsWaits cfgs (dats m ρ) () 0 c :=
  Pipeline.cellsWaits_intro cfgs (dats m ρ) () 0 c fun w s t =>
    mayWait c _ _ 0 (by fin_cases w <;> fin_cases s <;> exact Nat.le_refl 0) (by
      rcases t with ⟨_ | _, ht⟩
      · exact owes_above_all c
      · exact fun g u h => absurd h (Nat.lt_irrefl 0))

/-! ## The run -/

/-- What window `w`'s array of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, every weakly fair execution of the program on the 32 devices terminates, every
    array is at its computed contents, and every counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe

end
-- ==== Proof.Final.lean ====
/-
The run of the whole program, read at the program's own arrays: each device's result, and its arguments.
-/
module

public import proofs.«01_k».proof.Proof.Launch

@[expose] public section

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable [Facts] (m : (ℓ : Loc nD τ sig) → Buf (Elt F) ℓ) (ρ : Dev nD → PrngReg)

/-! ## Staging buffers hold whole arrays -/

theorem stgX_eq (c : Dev nD) : stgX m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem stgG_eq (c : Dev nD) : stgG m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem stgI_eq (c : Dev nD) : stgI m ρ c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _
theorem stgW_eq (c : Dev nD) : stgW m ρ c = m ((c : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _

/-! ## The arrays at the end -/

/-- An argument's array ends as it was. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The result array ends as the body left its staging buffer. -/
theorem finalA_out (c : Dev nD) : finalA m ρ c (4 : Fin 5) = result m ρ := by
  have hz : (fun a => (win0_4.index (0 : Fin 1)) a * main_v1.ty.shape.size a) = fun _ => 0 := funext fun a => by fin_cases a <;> decide
  have hr := fun f => Memref.read_access_unit_zero (Elt F) main_v1 hz (fun a => by fin_cases a <;> decide) f
  have ho : (win0_4.blk (0 : Fin 1)).view.read (Elt F) (finalA m ρ c (4 : Fin 5)) = result m ρ := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from flush0_4 _, if_pos rfl]
    exact View.read_write_univ _ _
  exact (hr _).symm.trans ho

/-- Every weakly fair execution terminates, with the result on every device, the arguments unchanged and every counter
    at zero. -/
theorem run : θ_run defs (onTc (τ := τ) (main (F := F))) ⟨m, fun _ => 0, ρ⟩ (fun r =>
    (∀ c : Dev nD, r.2.mem ((c : Thread nD τ).loc main_v1) = result m ρ
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run _ _ _).mono ?_ (run_main m ρ)
  rintro r ⟨hr, hsem⟩
  exact ⟨fun c => ⟨(hr c (4 : Fin 5)).trans (finalA_out m ρ c), (hr c (0 : Fin 5)).trans (finalA_in m ρ c (0 : Fin 5) rfl),
    (hr c (1 : Fin 5)).trans (finalA_in m ρ c (1 : Fin 5) rfl), (hr c (2 : Fin 5)).trans (finalA_in m ρ c (2 : Fin 5) rfl),
    (hr c (3 : Fin 5)).trans (finalA_in m ρ c (3 : Fin 5) rfl)⟩, hsem⟩

end Cert.KernelIdeal.Moe

end
-- ==== Proof.Frames.lean ====
/-
The frames: each program terminates, leaves its arguments unchanged and every semaphore counter at zero.
-/
module

public import proofs.«01_k».proof.Defs
public import proofs.«01_k».proof.Proof.Final
public import proofs.«01_k».proof.Proof.Word.Final
public import proofs.«01_k».proof.Proof.Gen.ReferenceIdeal.Run
public import proofs.«01_k».proof.Proof.Gen.Pre_top2_KernelIdeal
public import proofs.«01_k».proof.Proof.Gen.Pre_top2_ReferenceIdeal
public import Idealize.ShloMosaic.Lib.Quiescent

@[expose] public section

noncomputable section

namespace Cert.Moe

open Idealize.ShloMosaic Idealize.ShloMosaic.TcCoe Idealize.SL.Sem

/-- The kernel at bit patterns. -/
theorem frame_word : Cert.quiescent_Kernel (hKernel := Cert.Kernel.Gen.facts) := fun m g _ =>
  letI := Cert.Kernel.Gen.facts
  (θ_run _ _ _).mono (fun r h => ⟨fun c => (h.1 c).2, h.2⟩) (Cert.Kernel.Moe.run (F := Bits) m g)

/-- The kernel at extended reals. -/
theorem frame_ideal : Cert.quiescent_KernelIdeal (hKernelIdeal := Cert.KernelIdeal.Gen.facts) := fun m g _ =>
  letI := Cert.KernelIdeal.Gen.facts
  (θ_run _ _ _).mono (fun r h => ⟨fun c => (h.1 c).2, h.2⟩) (Cert.KernelIdeal.Moe.run (F := Ideal) m g)

/-- The reference at extended reals. -/
theorem frame_reference : Cert.quiescent_ReferenceIdeal (hReferenceIdeal := Cert.ReferenceIdeal.Gen.facts) := fun m g _ =>
  letI := Cert.ReferenceIdeal.Gen.facts
  (θ_run _ _ _).mono (fun r h => ⟨fun c => (h c).2, sem_eq_zero_of_no_sems (by decide) r.2⟩) (Cert.ReferenceIdeal.Value.run (F := Ideal) m g)

/-- The same on arguments that satisfy the precondition: the frame needs nothing of them. -/
theorem frame_ideal_pre : Cert.quiescent_KernelIdeal_pre_top2_KernelIdeal (hKernelIdeal := Cert.KernelIdeal.Gen.facts)
    (hPre_top2_KernelIdeal := Cert.Pre_top2_KernelIdeal.Gen.facts) := fun m g _ => frame_ideal m g trivial

/-- The reference's, likewise. -/
theorem frame_reference_pre : Cert.quiescent_ReferenceIdeal_pre_top2_ReferenceIdeal (hReferenceIdeal := Cert.ReferenceIdeal.Gen.facts)
    (hPre_top2_ReferenceIdeal := Cert.Pre_top2_ReferenceIdeal.Gen.facts) := fun m g _ => frame_reference m g trivial

end Cert.Moe

end
-- ==== Proof.Model.lean ====
/- The mathematics that both programs compute, over the extended reals: a token's scores, its softmax
   probabilities, its product with an expert, and the two experts its index words name. -/
module

public import Idealize.ShloMosaic.Lib.Pointwise

@[expose] public section

noncomputable section

namespace Cert.Moe

open Idealize.ShloMosaic

/-- The tokens, the router's weights, the index words, the experts' weights. -/
abbrev Toks := (⟨2, ![512, 256]⟩ : Shape).Idx → EReal
abbrev Rout := (⟨2, ![256, 64]⟩ : Shape).Idx → EReal
abbrev Idxs := (⟨2, ![512, 2]⟩ : Shape).Idx → BitVec 32
abbrev Exps := (⟨3, ![64, 256, 512]⟩ : Shape).Idx → EReal

/-- Token `t`'s score for expert `e`. -/
def score (x : Toks) (r : Rout) (t : Fin 512) (e : Fin 64) : EReal := ∑ k : Fin 256, x (ix2 t k) * r (ix2 k e)

/-- The greatest of token `t`'s scores, folded from −∞. -/
def top (x : Toks) (r : Rout) (t : Fin 512) : EReal :=
  Finset.fold max (Ideal.ofBits FTy.f32 0xFF800000#32) (fun e : Fin 64 => score x r t e) Finset.univ

/-- The exponential of a score less the greatest. -/
def expo (x : Toks) (r : Rout) (t : Fin 512) (e : Fin 64) : EReal := Ideal.exp (score x r t e - top x r t)

/-- Token `t`'s probability of expert `e`. -/
def prob (x : Toks) (r : Rout) (t : Fin 512) (e : Fin 64) : EReal := Ideal.div (expo x r t e) (∑ e' : Fin 64, expo x r t e')

/-- Token `t`'s product with expert `e`, at column `h`. -/
def prod (x : Toks) (w : Exps) (t : Fin 512) (e : Fin 64) (h : Fin 512) : EReal := ∑ k : Fin 256, x (ix2 t k) * w (ix3 e k h)

/-- The `k`-th expert of token `t`, its word being in range. -/
def pick (i : Idxs) (hi : ∀ t k, (i (ix2 t k)).toNat < 64) (t : Fin 512) (k : Fin 2) : Fin 64 := ⟨(i (ix2 t k)).toNat, hi t k⟩

/-- The top-2 mixture: the two chosen experts' products, weighted by their probabilities scaled to sum to one. -/
def mixture (x : Toks) (r : Rout) (i : Idxs) (w : Exps) (hi : ∀ t k, (i (ix2 t k)).toNat < 64) (t h : Fin 512) : EReal :=
  Ideal.div (prob x r t (pick i hi t 0)) (prob x r t (pick i hi t 0) + prob x r t (pick i hi t 1)) * prod x w t (pick i hi t 0) h
    + Ideal.div (prob x r t (pick i hi t 1)) (prob x r t (pick i hi t 0) + prob x r t (pick i hi t 1)) * prod x w t (pick i hi t 1) h

end Cert.Moe

end
-- ==== Proof.Softmax.lean ====
/- With finite tokens and router weights every probability is a positive real, so a weight of the mixture is a
   real that is not negative: it may be moved across a sum of extended reals. -/
module

public import proofs.«01_k».proof.Proof.Model

@[expose] public section

noncomputable section

namespace Cert.Moe

open Idealize.ShloMosaic

/-- Neither infinity. -/
def IsFin (z : EReal) : Prop := z < ⊤ ∧ ⊥ < z

theorem fin_iff (z : EReal) : IsFin z ↔ ∃ a : ℝ, z = a :=
  ⟨fun h => ⟨z.toReal, (EReal.coe_toReal h.1.ne h.2.ne').symm⟩, by
    rintro ⟨a, rfl⟩; exact ⟨EReal.coe_lt_top a, EReal.bot_lt_coe a⟩⟩

theorem fin_add {y z : EReal} (hy : IsFin y) (hz : IsFin z) : IsFin (y + z) := by
  rw [fin_iff] at *
  obtain ⟨a, rfl⟩ := hy
  obtain ⟨b, rfl⟩ := hz
  exact ⟨a + b, (EReal.coe_add a b).symm⟩

theorem fin_mul {y z : EReal} (hy : IsFin y) (hz : IsFin z) : IsFin (y * z) := by
  rw [fin_iff] at *
  obtain ⟨a, rfl⟩ := hy
  obtain ⟨b, rfl⟩ := hz
  exact ⟨a * b, (EReal.coe_mul a b).symm⟩

theorem fin_sub {y z : EReal} (hy : IsFin y) (hz : IsFin z) : IsFin (y - z) := by
  rw [fin_iff] at *
  obtain ⟨a, rfl⟩ := hy
  obtain ⟨b, rfl⟩ := hz
  exact ⟨a - b, (EReal.coe_sub a b).symm⟩

theorem fin_sum {ι : Type} (s : Finset ι) (f : ι → EReal) (hf : ∀ i ∈ s, IsFin (f i)) : IsFin (∑ i ∈ s, f i) :=
  Finset.sum_induction f IsFin (fun _ _ => fin_add) (by rw [fin_iff]; exact ⟨0, rfl⟩) hf

/-- A real above zero. -/
def IsPos (z : EReal) : Prop := 0 < z ∧ z < ⊤

theorem pos_iff (z : EReal) : IsPos z ↔ ∃ a : ℝ, 0 < a ∧ z = a := by
  constructor
  · rintro ⟨h0, h1⟩
    have hb : z ≠ ⊥ := fun h => by rw [h] at h0; exact absurd h0 (not_lt_bot)
    refine ⟨z.toReal, ?_, (EReal.coe_toReal h1.ne hb).symm⟩
    have h2 := h0
    rw [← EReal.coe_toReal h1.ne hb] at h2
    exact EReal.coe_pos.1 h2
  · rintro ⟨a, h, rfl⟩
    exact ⟨EReal.coe_pos.2 h, EReal.coe_lt_top a⟩

theorem pos_add {y z : EReal} (hy : IsPos y) (hz : IsPos z) : IsPos (y + z) := by
  rw [pos_iff] at *
  obtain ⟨a, ha, rfl⟩ := hy
  obtain ⟨b, hb, rfl⟩ := hz
  exact ⟨a + b, add_pos ha hb, (EReal.coe_add a b).symm⟩

theorem pos_div {y z : EReal} (hy : IsPos y) (hz : IsPos z) : IsPos (Ideal.div y z) := by
  rw [pos_iff] at *
  obtain ⟨a, ha, rfl⟩ := hy
  obtain ⟨b, hb, rfl⟩ := hz
  refine ⟨a * (1 / b), mul_pos ha (one_div_pos.2 hb), ?_⟩
  rw [Ideal.div_coe hb.ne', EReal.coe_mul]

theorem pos_sum {ι : Type} (s : Finset ι) (hs : s.Nonempty) (f : ι → EReal) (hf : ∀ i ∈ s, IsPos (f i)) : IsPos (∑ i ∈ s, f i) :=
  Finset.sum_induction_nonempty f IsPos (fun _ _ => pos_add) hs hf

theorem pos_exp {z : EReal} (hz : IsFin z) : IsPos (Ideal.exp z) := by
  rw [fin_iff] at hz
  obtain ⟨a, rfl⟩ := hz
  rw [pos_iff]
  exact ⟨Real.exp a, Real.exp_pos a, rfl⟩

theorem ofBits_bot : Ideal.ofBits FTy.f32 0xFF800000#32 = ⊥ := by simp [Ideal.ofBits, Ideal.ieee]
theorem ofBits_top : Ideal.ofBits FTy.f32 0x7F800000#32 = ⊤ := by simp [Ideal.ofBits, Ideal.ieee]

section
variable (x : Toks) (r : Rout) (hx : ∀ t k, IsFin (x (ix2 t k))) (hr : ∀ k e, IsFin (r (ix2 k e)))
include hx hr

theorem fin_score (t : Fin 512) (e : Fin 64) : IsFin (score x r t e) :=
  fin_sum _ _ fun k _ => fin_mul (hx t k) (hr k e)

theorem fin_top (t : Fin 512) : IsFin (top x r t) := by
  unfold top
  rw [ofBits_bot]
  exact ⟨(Finset.fold_max_lt _).2 ⟨bot_lt_top, fun e _ => (fin_score x r hx hr t e).1⟩,
    (Finset.lt_fold_max _).2 (.inr ⟨0, Finset.mem_univ _, (fin_score x r hx hr t 0).2⟩)⟩

theorem pos_expo (t : Fin 512) (e : Fin 64) : IsPos (expo x r t e) :=
  pos_exp (fin_sub (fin_score x r hx hr t e) (fin_top x r hx hr t))

theorem pos_prob (t : Fin 512) (e : Fin 64) : IsPos (prob x r t e) :=
  pos_div (pos_expo x r hx hr t e) (pos_sum _ ⟨0, Finset.mem_univ _⟩ _ fun e' _ => pos_expo x r hx hr t e')

/-- A chosen expert's probability over the sum of the two. -/
theorem pos_weight (t : Fin 512) (a b c : Fin 64) : IsPos (Ideal.div (prob x r t a) (prob x r t b + prob x r t c)) :=
  pos_div (pos_prob x r hx hr t a) (pos_add (pos_prob x r hx hr t b) (pos_prob x r hx hr t c))
end

/-- A positive real factor moves out of a sum. -/
theorem pos_mul_sum {ι : Type} [DecidableEq ι] {g : EReal} (hg : IsPos g) (s : Finset ι) (f : ι → EReal) : g * ∑ i ∈ s, f i = ∑ i ∈ s, g * f i := by
  induction s using Finset.induction_on with
  | empty => simp
  | insert a s ha ih =>
    rw [Finset.sum_insert ha, Finset.sum_insert ha, EReal.left_distrib_of_nonneg_of_ne_top hg.1.le hg.2.ne, ih]

/-! ## The sum over all experts -/

/-- What expert `e` adds to token `t`'s result: nothing unless it is one of the token's two. -/
def addend (x : Toks) (r : Rout) (i : Idxs) (w : Exps) (hi : ∀ t k, (i (ix2 t k)).toNat < 64) (t h : Fin 512) (e : Fin 64) : EReal :=
  if pick i hi t 0 = e ∨ pick i hi t 1 = e then
    ∑ k : Fin 256, x (ix2 t k) * Ideal.div (prob x r t e) (prob x r t (pick i hi t 0) + prob x r t (pick i hi t 1)) * w (ix3 e k h)
  else 0

/-- Two different experts being chosen, the sum over all of them is the mixture. -/
theorem sum_addend (x : Toks) (r : Rout) (i : Idxs) (w : Exps) (hi : ∀ t k, (i (ix2 t k)).toNat < 64)
    (hx : ∀ t k, IsFin (x (ix2 t k))) (hr : ∀ k e, IsFin (r (ix2 k e)))
    (hne : ∀ t, pick i hi t 0 ≠ pick i hi t 1) (t h : Fin 512) :
    ∑ e : Fin 64, addend x r i w hi t h e = mixture x r i w hi t h := by
  have hterm : ∀ e : Fin 64, ∑ k : Fin 256, x (ix2 t k) * Ideal.div (prob x r t e) (prob x r t (pick i hi t 0) + prob x r t (pick i hi t 1)) * w (ix3 e k h)
      = Ideal.div (prob x r t e) (prob x r t (pick i hi t 0) + prob x r t (pick i hi t 1)) * prod x w t e h := by
    intro e
    unfold prod
    rw [pos_mul_sum (pos_weight x r hx hr t e _ _)]
    refine Finset.sum_congr rfl fun k _ => ?_
    rw [mul_comm (x (ix2 t k)), mul_assoc]
  have hsplit : ∀ e : Fin 64, addend x r i w hi t h e
      = (if pick i hi t 0 = e then Ideal.div (prob x r t e) (prob x r t (pick i hi t 0) + prob x r t (pick i hi t 1)) * prod x w t e h else 0)
        + (if pick i hi t 1 = e then Ideal.div (prob x r t e) (prob x r t (pick i hi t 0) + prob x r t (pick i hi t 1)) * prod x w t e h else 0) := by
    intro e
    unfold addend
    rw [hterm]
    by_cases h0 : pick i hi t 0 = e
    · have h1 : ¬ pick i hi t 1 = e := fun h1 => hne t (h0.trans h1.symm)
      rw [if_pos (.inl h0), if_pos h0, if_neg h1, add_zero]
    · by_cases h1 : pick i hi t 1 = e
      · rw [if_pos (.inr h1), if_neg h0, if_pos h1, zero_add]
      · rw [if_neg (not_or.2 ⟨h0, h1⟩), if_neg h0, if_neg h1, add_zero]
  rw [Finset.sum_congr rfl fun e _ => hsplit e, Finset.sum_add_distrib, Finset.sum_ite_eq, Finset.sum_ite_eq, if_pos (Finset.mem_univ _), if_pos (Finset.mem_univ _)]
  rfl

end Cert.Moe

end
-- ==== Proof.KernelValue.lean ====
/- What one device adds to the result, entry by entry, over the extended reals: the products of its two experts. -/
module

public import proofs.«01_k».proof.Proof.Steps
public import proofs.«01_k».proof.Proof.Softmax

@[expose] public section

noncomputable section

namespace Cert.KernelIdeal.Moe

open Cert.KernelIdeal Cert.KernelIdeal.Gen Idealize.ShloMosaic Cert.Moe

/-- The probabilities. -/
theorem pay2_at (x : FVec Ideal S512x256 .f32) (r : FVec Ideal S256x64 .f32) (t : Fin 512) (e : Fin 64) :
    k0_pay2 (F := Ideal) x r (ix2 t e) = prob x r t e := by
  pointwise [k0_pay2]
  rfl

/-- Two words are equal exactly when the comparison's bit is one. -/
theorem eq_bit (a b : BitVec 32) : IntOp.cmpi .eq a b = if a = b then 1#1 else 0#1 := by
  by_cases h : a = b
  · subst h; simp [IntOp.cmpi]
  · rw [if_neg h]; show BitVec.ofBool (a == b) = 0#1; rw [beq_false_of_ne h]; rfl

theorem ofNat_eq_iff (e : Fin 64) (w : BitVec 32) (hw : w.toNat < 64) : BitVec.ofNat 32 e.val = w ↔ (⟨w.toNat, hw⟩ : Fin 64) = e := by
  constructor
  · intro h
    apply Fin.ext
    show w.toNat = e.val
    rw [← h, BitVec.toNat_ofNat]
    have := e.isLt
    omega
  · intro h
    apply BitVec.eq_of_toNat_eq
    have := e.isLt
    have h' : w.toNat = e.val := congrArg Fin.val h
    rw [BitVec.toNat_ofNat, h']
    omega

/-- A sum over the experts of the entries that match a word is the entry the word names. -/
theorem sum_match (f : Fin 64 → EReal) (w : BitVec 32) (hw : w.toNat < 64) :
    ∑ e : Fin 64, Scalar.select (IntOp.cmpi .eq (BitVec.ofNat 32 e.val) w) (f e) 0 = f ⟨w.toNat, hw⟩ := by
  have : ∀ e : Fin 64, Scalar.select (IntOp.cmpi .eq (BitVec.ofNat 32 e.val) w) (f e) 0 = if (⟨w.toNat, hw⟩ : Fin 64) = e then f e else 0 := by
    intro e
    rw [eq_bit]
    by_cases h : (⟨w.toNat, hw⟩ : Fin 64) = e
    · rw [if_pos ((ofNat_eq_iff e w hw).2 h), if_pos h]; rfl
    · rw [if_neg (fun h' => h ((ofNat_eq_iff e w hw).1 h')), if_neg h]; rfl
  rw [Finset.sum_congr rfl fun e _ => this e, Finset.sum_ite_eq, if_pos (Finset.mem_univ _)]

/-- The bit that says whether an expert is one of two. -/
theorem chosen_bit (e : Fin 64) (a b : BitVec 32) (ha : a.toNat < 64) (hb : b.toNat < 64) (y z : EReal) :
    Scalar.select (IntOp.ori (IntOp.cmpi .eq a (BitVec.ofNat 32 e.val)) (IntOp.cmpi .eq b (BitVec.ofNat 32 e.val))) y z
      = if (⟨a.toNat, ha⟩ : Fin 64) = e ∨ (⟨b.toNat, hb⟩ : Fin 64) = e then y else z := by
  rw [eq_bit, eq_bit]
  have h1 : a = BitVec.ofNat 32 e.val ↔ (⟨a.toNat, ha⟩ : Fin 64) = e := eq_comm.trans (ofNat_eq_iff e a ha)
  have h2 : b = BitVec.ofNat 32 e.val ↔ (⟨b.toNat, hb⟩ : Fin 64) = e := eq_comm.trans (ofNat_eq_iff e b hb)
  by_cases p : (⟨a.toNat, ha⟩ : Fin 64) = e <;> by_cases q : (⟨b.toNat, hb⟩ : Fin 64) = e <;>
    simp only [h1, h2, p, q, if_true, if_false, or_true, or_false, true_or] <;> rfl

/-- The word of a device's first expert. -/
theorem word_fst (c : Dev nD) : Scalar.addi (Scalar.muli (Scalar.remsi (Scalar.divsi (Dev.word c) 1#32) 32#32) 2#32) 0#32 = BitVec.ofNat 32 (2 * c.val) := by
  revert c; decide +kernel
/-- The word of its second. -/
theorem word_snd (c : Dev nD) : Scalar.addi (Scalar.muli (Scalar.remsi (Scalar.divsi (Dev.word c) 1#32) 32#32) 2#32) 1#32 = BitVec.ofNat 32 (2 * c.val + 1) := by
  revert c; decide +kernel

/-- A device's experts. -/
def expert (c : Fin 32) (l : Fin 2) : Fin 64 := ⟨2 * c.val + l.val, by omega⟩

/-- The device's part: the addends of its two experts. -/
theorem partial_at (c : Dev nD) (x : FVec Ideal S512x256 .f32) (r : FVec Ideal S256x64 .f32) (ri : Idxs) (w : Exps)
    (hi : ∀ t k, (ri (ix2 t k)).toNat < 64) (i0 i1 : IVec S512x1 32) (w0 w1 : FVec Ideal S1x256x512 .f32)
    (h0 : ∀ t, i0 (ix2 t 0) = ri (ix2 t 0)) (h1 : ∀ t, i1 (ix2 t 0) = ri (ix2 t 1))
    (hw0 : ∀ k h, w0 (ix3 0 k h) = w (ix3 (expert c 0) k h)) (hw1 : ∀ k h, w1 (ix3 0 k h) = w (ix3 (expert c 1) k h))
    (t h : Fin 512) :
    partialOf (F := Ideal) c x r i0 i1 w0 w1 (ix2 t h)
      = addend x r ri w hi t h (expert c 0) + addend x r ri w hi t h (expert c 1) := by
  have hx : k0_pay1 (F := Ideal) x = x := by
    funext i
    idx_vars i
    pointwise [k0_pay1]
  have e0 : BitVec.ofNat 32 (2 * c.val) = BitVec.ofNat 32 (expert c 0).val := rfl
  have e1 : BitVec.ofNat 32 (2 * c.val + 1) = BitVec.ofNat 32 (expert c 1).val := rfl
  have k0 : (BitVec.ofNat 32 (expert c 0).val).toNat = (expert c 0).val := by
    rw [BitVec.toNat_ofNat]; have := (expert c 0).isLt; omega
  have k1 : (BitVec.ofNat 32 (expert c 1).val).toNat = (expert c 1).val := by
    rw [BitVec.toNat_ofNat]; have := (expert c 1).isLt; omega
  unfold partialOf
  rw [hx]
  pointwise [k0_pay9, k0_pay8, k0_pay7, k0_pay6, k0_pay5, k0_pay4, k0_pay3]
  have m0 := sum_match (fun e => prob x r t e) (ri (ix2 t 0)) (hi t 0)
  have m1 := sum_match (fun e => prob x r t e) (ri (ix2 t 1)) (hi t 1)
  have n0 := sum_match (fun e => prob x r t e) (BitVec.ofNat 32 (expert c 0).val) (by rw [k0]; exact (expert c 0).isLt)
  have n1 := sum_match (fun e => prob x r t e) (BitVec.ofNat 32 (expert c 1).val) (by rw [k1]; exact (expert c 1).isLt)
  have f0 : (⟨(BitVec.ofNat 32 (expert c 0).val).toNat, by rw [k0]; exact (expert c 0).isLt⟩ : Fin 64) = expert c 0 := Fin.ext k0
  have f1 : (⟨(BitVec.ofNat 32 (expert c 1).val).toNat, by rw [k1]; exact (expert c 1).isLt⟩ : Fin 64) = expert c 1 := Fin.ext k1
  simp only [word_fst, word_snd, h0, h1, hw0, hw1, pay2_at, e0, e1, m0, m1, n0, n1, f0, f1]
  have c0 := fun y => chosen_bit (expert c 0) (ri (ix2 t 0)) (ri (ix2 t 1)) (hi t 0) (hi t 1) y (0 : EReal)
  have c1 := fun y => chosen_bit (expert c 1) (ri (ix2 t 0)) (ri (ix2 t 1)) (hi t 0) (hi t 1) y (0 : EReal)
  simp only [c0, c1]
  refine congrArg₂ (· + ·) ?_ ?_
  · unfold addend
    by_cases hp : pick ri hi t 0 = expert c 0 ∨ pick ri hi t 1 = expert c 0
    · rw [if_pos hp]; exact Finset.sum_congr rfl fun k _ => if_pos hp
    · rw [if_neg hp]; exact Finset.sum_eq_zero fun k _ => if_neg hp
  · unfold addend
    by_cases hp : pick ri hi t 0 = expert c 1 ∨ pick ri hi t 1 = expert c 1
    · rw [if_pos hp]; exact Finset.sum_congr rfl fun k _ => if_pos hp
    · rw [if_neg hp]; exact Finset.sum_eq_zero fun k _ => if_neg hp

theorem pay11_at (v : FVec Ideal S32x16x512 .f32) (t : Fin 16) (h : Fin 512) :
    k0_pay11 (F := Ideal) v (ix2 t h) = ∑ s : Fin 32, v (ix3 s t h) := by
  pointwise [k0_pay11]

end Cert.KernelIdeal.Moe

end
-- ==== Proof.RefValue.lean ====
/- The reference's result, entry by entry: its long composed term cut into named pieces, and what each piece
   holds at an index, over the extended reals. -/
module

public import proofs.«01_k».proof.Proof.Gen.ReferenceIdeal.Run
public import Idealize.ShloMosaic.Lib.Pointwise
public import proofs.«01_k».proof.Proof.Model

@[expose] public section

noncomputable section

namespace Cert.ReferenceIdeal.Moe

open Cert.ReferenceIdeal Cert.ReferenceIdeal.Gen Cert.ReferenceIdeal.Value Idealize.ShloMosaic Idealize.ShloMosaic.TcCoe Idealize.SL.Sem Idealize.ShloMosaic.StableHlo

section
variable {F : FTy → Type} [FloatOps F]

/-- The router's scores. -/
def scoresT (x : FVec F S512x256 .f32) (r : FVec F S256x64 .f32) : FVec F S512x64 .f32 :=
  Host.dotGeneral dot_S512x256_S256x64_S512x64_1_0_0_1_n_n none x r

/-- The exponentials of the scores less their row's maximum. -/
def expsT (x : FVec F S512x256 .f32) (r : FVec F S256x64 .f32) : FVec F S512x64 .f32 :=
  Host.exp (subf (scoresT x r) (broadcastInDim S512x64 ![0, 1] bcast_S512x1_S512x64_0_1 (broadcastInDim S512x1 ![0] bcast_S512_S512x1_0
    (Host.reduce FloatOps.maximumf (scoresT x r) (constant S_ .f32 0xFF800000#32) reducesTo_S512x64_S512_d1 h_S_))))

/-- The softmax's probabilities. -/
def probsT (x : FVec F S512x256 .f32) (r : FVec F S256x64 .f32) : FVec F S512x64 .f32 :=
  Host.divf (expsT x r) (broadcastInDim S512x64 ![0, 1] bcast_S512x1_S512x64_0_1 (broadcastInDim S512x1 ![0] bcast_S512_S512x1_0
    (Host.reduceAdd (expsT x r) (constant S_ .f32 0x00000000#32) reducesTo_S512x64_S512_d1 h_S_)))

/-- The two chosen experts' probabilities. -/
def gatesT (x : FVec F S512x256 .f32) (r : FVec F S256x64 .f32) (ri : IVec S512x2 32) : FVec F S512x2 .f32 :=
  Host.gather gather_S512x64_S512x2x1_S512x2_n_1_0_0_1_2_11 (probsT x r)
    (shapeCast _ (select (cmpi .slt ri (broadcastInDim S512x2 ![] bcast_S_S512x2 (constantI S_ 32 0#32)))
      (addi ri (broadcastInDim S512x2 ![] bcast_S_S512x2 (constantI S_ 32 64#32))) ri) shapeCasts_S512x2_S512x2x1)

/-- Every token's product with every expert's weights. -/
def prodsT (x : FVec F S512x256 .f32) (w : FVec F S64x256x512 .f32) : FVec F S512x64x512 .f32 :=
  Host.dotGeneral dot_S512x256_S64x256x512_S512x64x512_1_1_0_02_n_n none x w

/-- Of those, each token's product with the expert that an index column names. -/
def pickT (x : FVec F S512x256 .f32) (w : FVec F S64x256x512 .f32) (col : IVec S512x1 32) : FVec F S512x512 .f32 :=
  shapeCast _ (Host.gather gather_S512x64x512_S512x1x1_S512x1x512_2_1_0_0_1_2_11512 (prodsT x w)
    (select (cmpi .slt (broadcastInDim S512x1x1 ![0] bcast_S512_S512x1x1_0 (shapeCast _ col shapeCasts_S512x1_S512)) (broadcastInDim S512x1x1 ![] bcast_S_S512x1x1 (constantI S_ 32 0#32)))
      (addi (broadcastInDim S512x1x1 ![0] bcast_S512_S512x1x1_0 (shapeCast _ col shapeCasts_S512x1_S512)) (broadcastInDim S512x1x1 ![] bcast_S_S512x1x1 (constantI S_ 32 64#32)))
      (broadcastInDim S512x1x1 ![0] bcast_S512_S512x1x1_0 (shapeCast _ col shapeCasts_S512x1_S512)))) shapeCasts_S512x1x512_S512x512

/-- The reference's result as a function of its four arguments. -/
def outT (x : FVec F S512x256 .f32) (r : FVec F S256x64 .f32) (ri : IVec S512x2 32) (w : FVec F S64x256x512 .f32) : FVec F S512x512 .f32 :=
  have g0 := extractStridedSlice S512x1 ![0, 0] (gatesT x r ri) slices_S512x2_S512x1_0_0
  have g1 := extractStridedSlice S512x1 ![0, 1] (gatesT x r ri) slices_S512x2_S512x1_0_1
  addf (mulf (broadcastInDim S512x512 ![0, 1] bcast_S512x1_S512x512_0_1 (Host.divf g0 (addf g0 g1)))
      (pickT x w (extractStridedSlice S512x1 ![0, 0] ri slices_S512x2_S512x1_0_0)))
    (mulf (broadcastInDim S512x512 ![0, 1] bcast_S512x1_S512x512_0_1 (Host.divf g1 (addf g0 g1)))
      (pickT x w (extractStridedSlice S512x1 ![0, 1] ri slices_S512x2_S512x1_0_1)))

set_option maxRecDepth 8192 in
theorem res_eq (m : (ℓ : Loc nD τ sig) → Buf (Elt F) ℓ) (c : Dev nD) :
    res_main_v31 m c = outT (m ((c.tc : Thread nD τ).loc main_arg0)) (m ((c.tc : Thread nD τ).loc main_arg1))
      (m ((c.tc : Thread nD τ).loc main_arg2)) (m ((c.tc : Thread nD τ).loc main_arg3)) := rfl

end

section Gathers

/-- Along axis 1, with axis 0 a batch: the gather that picks, of row `t`, the entry its start index names. -/
theorem gates_gather {α : Type} (p : S512x64.Idx → α) (idx : IVec S512x2x1 32) (t : Fin 512) (k : Fin 2) :
    Host.gather gather_S512x64_S512x2x1_S512x2_n_1_0_0_1_2_11 p idx (ix2 t k)
      = p (ix2 t ⟨min (idx (ix3 t k 0)).toInt.toNat 63, by omega⟩) := by
  have hsi : gather_S512x64_S512x2x1_S512x2_n_1_0_0_1_2_11.siIdx (ix2 t k) ⟨0, by decide⟩ = ix3 t k 0 := by
    funext b
    apply Fin.ext
    match (b : Fin 3) with
    | 0 =>
      unfold GatherDims.siIdx
      rw [dif_neg (by decide)]
      rfl
    | 1 =>
      unfold GatherDims.siIdx
      rw [dif_neg (by decide)]
      rfl
    | 2 =>
      unfold GatherDims.siIdx
      rw [dif_pos (by decide)]
      rfl
  unfold Host.gather
  congr 1
  funext a
  apply Fin.ext
  match (a : Fin 2) with
  | 0 =>
    show GatherDims.start _ _ _ _ + GatherDims.batchCoord _ _ _ + GatherDims.offCoord _ _ _ = t.val
    rw [GatherDims.start_batching _ _ _ _ (by decide), GatherDims.offCoord_eq_zero _ _ _ (by decide)]
    unfold GatherDims.batchCoord
    rw [dif_pos (by decide)]
    rw [Nat.zero_add, Nat.add_zero]
    rfl
  | 1 =>
    show GatherDims.start _ _ _ _ + GatherDims.batchCoord _ _ _ + GatherDims.offCoord _ _ _ = min _ 63
    rw [GatherDims.batchCoord_eq_zero _ _ _ (by decide), GatherDims.offCoord_eq_zero _ _ _ (by decide)]
    unfold GatherDims.start
    rw [dif_pos (by decide)]
    exact congrArg (fun z => min (idx z).toInt.toNat 63) hsi

/-- The same of a [512, 64, 512] array: of row `t`, the line that the start index names. -/
theorem pick_gather {α : Type} (p : S512x64x512.Idx → α) (idx : IVec S512x1x1 32) (t : Fin 512) (h : Fin 512) :
    Host.gather gather_S512x64x512_S512x1x1_S512x1x512_2_1_0_0_1_2_11512 p idx (ix3 t 0 h)
      = p (ix3 t ⟨min (idx (ix3 t 0 0)).toInt.toNat 63, by omega⟩ h) := by
  have hsi : gather_S512x64x512_S512x1x1_S512x1x512_2_1_0_0_1_2_11512.siIdx (ix3 t 0 h) ⟨0, by decide⟩ = ix3 t 0 0 := by
    funext b
    apply Fin.ext
    match (b : Fin 3) with
    | 0 =>
      unfold GatherDims.siIdx
      rw [dif_neg (by decide)]
      rfl
    | 1 =>
      unfold GatherDims.siIdx
      rw [dif_neg (by decide)]
      rfl
    | 2 =>
      unfold GatherDims.siIdx
      rw [dif_pos (by decide)]
      rfl
  unfold Host.gather
  congr 1
  funext a
  apply Fin.ext
  match (a : Fin 3) with
  | 0 =>
    show GatherDims.start _ _ _ _ + GatherDims.batchCoord _ _ _ + GatherDims.offCoord _ _ _ = t.val
    rw [GatherDims.start_batching _ _ _ _ (by decide), GatherDims.offCoord_eq_zero _ _ _ (by decide)]
    unfold GatherDims.batchCoord
    rw [dif_pos (by decide)]
    rw [Nat.zero_add, Nat.add_zero]
    rfl
  | 1 =>
    show GatherDims.start _ _ _ _ + GatherDims.batchCoord _ _ _ + GatherDims.offCoord _ _ _ = min _ 63
    rw [GatherDims.batchCoord_eq_zero _ _ _ (by decide), GatherDims.offCoord_eq_zero _ _ _ (by decide)]
    unfold GatherDims.start
    rw [dif_pos (by decide)]
    exact congrArg (fun z => min (idx z).toInt.toNat 63) hsi
  | 2 =>
    show GatherDims.start _ _ _ _ + GatherDims.batchCoord _ _ _ + GatherDims.offCoord _ _ _ = h.val
    rw [GatherDims.batchCoord_eq_zero _ _ _ (by decide)]
    unfold GatherDims.start GatherDims.offCoord
    rw [dif_neg (by decide), dif_pos (by decide), Nat.zero_add]
    rfl

/-- A word below 64 is not negative, so the wrap of a negative index leaves it, and the clamp does too. -/
theorem wrap_of_lt (w : BitVec 32) (hw : w.toNat < 64) :
    Scalar.select (IntOp.cmpi .slt w 0#32) (IntOp.addi w 64#32) w = w ∧ min w.toInt.toNat 63 = w.toNat := by
  have h1 : w.toInt = w.toNat := BitVec.toInt_eq_toNat_of_lt (by omega)
  have h2 : w.slt 0#32 = false := by
    rw [BitVec.slt_eq_decide, decide_eq_false_iff_not, h1]
    simp
  constructor
  · show Scalar.select (BitVec.ofBool (w.slt 0#32)) _ _ = _
    rw [h2]
    rfl
  · rw [h1]
    simp only [Int.toNat_natCast]
    omega

end Gathers

open Cert.Moe

theorem exps_at (x : FVec Ideal S512x256 .f32) (r : FVec Ideal S256x64 .f32) (t : Fin 512) (e : Fin 64) :
    expsT x r (ix2 t e) = expo x r t e := by
  pointwise [expsT, scoresT]
  rfl

theorem probs_at (x : FVec Ideal S512x256 .f32) (r : FVec Ideal S256x64 .f32) (t : Fin 512) (e : Fin 64) :
    probsT x r (ix2 t e) = prob x r t e := by
  pointwise [probsT]
  simp only [exps_at]
  rfl

theorem prods_at (x : FVec Ideal S512x256 .f32) (w : FVec Ideal S64x256x512 .f32) (t : Fin 512) (e : Fin 64) (h : Fin 512) :
    prodsT x w (ix3 t e h) = prod x w t e h := by
  pointwise [prodsT]
  rfl

theorem gates_at (x : FVec Ideal S512x256 .f32) (r : FVec Ideal S256x64 .f32) (ri : IVec S512x2 32)
    (hi : ∀ t k, (ri (ix2 t k)).toNat < 64) (t : Fin 512) (k : Fin 2) :
    gatesT x r ri (ix2 t k) = prob x r t (pick ri hi t k) := by
  unfold gatesT
  rw [gates_gather, probs_at]
  congr 1
  apply Fin.ext
  show min _ 63 = (ri (ix2 t k)).toNat
  pointwise
  rw [(wrap_of_lt _ (hi t k)).1]
  exact (wrap_of_lt _ (hi t k)).2

theorem pick_at (x : FVec Ideal S512x256 .f32) (w : FVec Ideal S64x256x512 .f32) (col : IVec S512x1 32) (t : Fin 512) (h : Fin 512)
    (e : Fin 64) (he : (col (ix2 t 0)).toNat = e.val) :
    pickT x w col (ix2 t h) = prod x w t e h := by
  have hlt : (col (ix2 t 0)).toNat < 64 := by rw [he]; exact e.isLt
  pointwise [pickT]
  rw [pick_gather, prods_at]
  congr 1
  apply Fin.ext
  show min _ 63 = e.val
  pointwise
  rw [(wrap_of_lt _ hlt).1, (wrap_of_lt _ hlt).2, he]

/-- The reference's result is the mixture. -/
theorem out_at (x : FVec Ideal S512x256 .f32) (r : FVec Ideal S256x64 .f32) (ri : IVec S512x2 32) (w : FVec Ideal S64x256x512 .f32)
    (hi : ∀ t k, (ri (ix2 t k)).toNat < 64) (t : Fin 512) (h : Fin 512) :
    outT x r ri w (ix2 t h) = mixture x r ri w hi t h := by
  pointwise [outT]
  rw [gates_at x r ri hi, gates_at x r ri hi, pick_at x w _ t h (pick ri hi t 0) (by pointwise; rfl),
    pick_at x w _ t h (pick ri hi t 1) (by pointwise; rfl)]
  rfl

end Cert.ReferenceIdeal.Moe

end
-- ==== Proof.Equation.lean ====
/- The equation: on arguments that satisfy the precondition, the kernel's result is the reference's. -/
module

public import proofs.«01_k».proof.Proof.Final
public import proofs.«01_k».proof.Proof.KernelValue
public import proofs.«01_k».proof.Proof.RefValue
public import Idealize.ShloMosaic.Lib.Layout

@[expose] public section

noncomputable section

namespace Cert.KernelIdeal.Moe

open Cert.KernelIdeal Cert.KernelIdeal.Gen Idealize.ShloMosaic Idealize.ShloMosaic.TcCoe Idealize.SL.Sem Cert.Moe

/-- The experts' weights are 32 blocks of two experts. -/
theorem tiles : Layout.Tiles ⟨3, ![2, 256, 512]⟩ ⟨3, ![64, 256, 512]⟩ 0 32 := by decide

variable (m : (ℓ : Loc nD τ sig) → Buf (Elt Ideal) ℓ) (ρ : Dev nD → PrngReg)
  (x : Toks) (r : Rout) (i : Idxs) (w : Exps) (hi : ∀ t k, (i (ix2 t k)).toNat < 64)
  (ax : ∀ c : Dev nD, m ((c : Thread nD τ).loc main_arg0) = x)
  (ar : ∀ c : Dev nD, m ((c : Thread nD τ).loc main_arg1) = r)
  (ai : ∀ c : Dev nD, m ((c : Thread nD τ).loc main_arg2) = i)
  (aw : ∀ c : Dev nD, m ((c : Thread nD τ).loc main_arg3) = Layout.block ⟨3, ![2, 256, 512]⟩ ⟨3, ![64, 256, 512]⟩ 0 32 c w tiles)

include ax ar ai aw in
/-- A device's part is the addends of its two experts. -/
theorem own_at (c : Dev nD) (t h : Fin 512) :
    own m ρ c (ix2 t h) = addend x r i w hi t h (expert c 0) + addend x r i w hi t h (expert c 1) := by
  unfold own
  rw [stgX_eq, stgG_eq, stgI_eq, stgW_eq, ax, ar, ai, aw]
  have hz2 : (![0, 0] : Fin 2 → ℕ) = fun _ => 0 := funext fun a => by fin_cases a <;> rfl
  rw [show xM.view.readAt (Elt Ideal) (Rect.unit (s := S512x256) ![0, 0] S512x256.size inb_S512x256_S512x256_0_0).toLoadRect x = x
      from Memref.readAt_unit_zero (Elt Ideal) cc0_stg0_0 hz2 _ _,
    show gM.view.readAt (Elt Ideal) (Rect.unit (s := S256x64) ![0, 0] S256x64.size inb_S256x64_S256x64_0_0).toLoadRect r = r
      from Memref.readAt_unit_zero (Elt Ideal) cc0_stg1_0 hz2 _ _]
  refine partial_at c x r i w hi _ _ _ _ (fun t => ?_) (fun t => ?_) (fun k h => ?_) (fun k h => ?_) t h
  · refine congrArg i (funext fun a => Fin.ext ?_)
    match (a : Fin 2) with
    | 0 => show 0 + 1 * t.val = t.val; omega
    | 1 => rfl
  · refine congrArg i (funext fun a => Fin.ext ?_)
    match (a : Fin 2) with
    | 0 => show 0 + 1 * t.val = t.val; omega
    | 1 => rfl
  · refine congrArg w (funext fun a => Fin.ext ?_)
    match (a : Fin 3) with
    | 0 => show c.val * 2 + (0 + 1 * 0) = 2 * c.val + 0; omega
    | 1 => show 0 + 1 * k.val = k.val; omega
    | 2 => show 0 + 1 * h.val = h.val; omega
  · refine congrArg w (funext fun a => Fin.ext ?_)
    match (a : Fin 3) with
    | 0 => show c.val * 2 + (1 + 1 * 0) = 2 * c.val + 1; omega
    | 1 => show 0 + 1 * k.val = k.val; omega
    | 2 => show 0 + 1 * h.val = h.val; omega

/-- A sum over the devices of a sum over their two experts is the sum over all experts. -/
theorem sum_devices (f : Fin 64 → EReal) : ∑ c : Fin 32, (f (expert c 0) + f (expert c 1)) = ∑ e : Fin 64, f e := by
  have : ∀ c : Fin 32, f (expert c 0) + f (expert c 1) = ∑ l : Fin 2, f (expert c l) := fun c => (Fin.sum_univ_two fun l => f (expert c l)).symm
  rw [Finset.sum_congr rfl fun c _ => this c, ← Finset.sum_product']
  refine Finset.sum_nbij' (fun p => expert p.1 p.2) (fun e => (⟨e.val / 2, by omega⟩, ⟨e.val % 2, by omega⟩))
    (fun _ _ => Finset.mem_univ _) (fun _ _ => Finset.mem_univ _) ?_ ?_ (fun _ _ => rfl)
  · rintro ⟨c, l⟩ _
    have := c.isLt
    have := l.isLt
    refine Prod.ext (Fin.ext ?_) (Fin.ext ?_)
    · show (2 * c.val + l.val) / 2 = c.val; omega
    · show (2 * c.val + l.val) % 2 = l.val; omega
  · intro e _
    refine Fin.ext ?_
    show 2 * (e.val / 2) + e.val % 2 = e.val
    omega

include ax ar ai aw in
/-- The kernel's result is the mixture. -/
theorem result_at (hx : ∀ t k, IsFin (x (ix2 t k))) (hr : ∀ k e, IsFin (r (ix2 k e)))
    (hne : ∀ t, i (ix2 t 0) ≠ i (ix2 t 1)) (t h : Fin 512) :
    result m ρ (ix2 t h) = mixture x r i w hi t h := by
  have ht := t.isLt
  let d : Fin 32 := ⟨t.val / 16, by omega⟩
  let a : Fin 16 := ⟨t.val % 16, by omega⟩
  have hrow : rowOf d a = t := Fin.ext (by show 16 * (t.val / 16) + t.val % 16 = t.val; omega)
  have e1 : result m ρ (ix2 t h) = k0_pay11 (F := Ideal) (parts m ρ d) (ix2 a h) := by
    show k0_pay11 (F := Ideal) (parts m ρ d) (ixA a h) = _
    refine congrArg _ (funext fun b => ?_)
    match (b : Fin 2) with
    | 0 => rfl
    | 1 => rfl
  have e2 : ∀ s : Fin 32, parts m ρ d (ix3 s a h) = own m ρ (toEquiv d s) (ix2 t h) := by
    intro s
    show own m ρ (dn d s) (ixO (rowOf d a) h) = own m ρ (dn d s) (ix2 t h)
    rw [hrow]
    refine congrArg _ (funext fun b => ?_)
    match (b : Fin 2) with
    | 0 => rfl
    | 1 => rfl
  rw [e1, pay11_at, Finset.sum_congr rfl fun s _ => e2 s, Equiv.sum_comp (toEquiv d) fun c => own m ρ c (ix2 t h),
    Finset.sum_congr rfl fun c _ => own_at m ρ x r i w hi ax ar ai aw c t h,
    sum_devices (addend x r i w hi t h)]
  refine sum_addend x r i w hi hx hr (fun t h' => hne t ?_) t h
  have h2 : (i (ix2 t 0)).toNat = (i (ix2 t 1)).toNat := congrArg (fun e : Fin 64 => e.val) h'
  exact BitVec.eq_of_toNat_eq h2

end Cert.KernelIdeal.Moe

end
-- ==== Proof.Domain.lean ====
/- The precondition, read entry by entry: the tokens and the router's weights are finite, the index words are in
   range, and a token's two are different. -/
module

public import proofs.«01_k».proof.Proof.Gen.Pre_top2_KernelIdeal
public import Idealize.ShloMosaic.Lib.WordCmp
public import Idealize.ShloMosaic.Lib.Affine
public import proofs.«01_k».proof.Proof.Softmax

@[expose] public section

noncomputable section

namespace Cert.Moe

open Idealize.ShloMosaic Cert.Pre_top2_KernelIdeal Cert.Pre_top2_KernelIdeal.Gen

variable (x : FVec Ideal S512x256 .f32) (r : FVec Ideal S256x64 .f32) (i : IVec S512x2 32) (w : FVec Ideal S2x256x512 .f32)

/-- A float strictly between the two infinities. -/
theorem isFin_of_bits (z : Ideal .f32)
    (h : IntOp.andi (FloatOps.cmpf (F := Ideal) .olt z (Ideal.ofBits FTy.f32 0x7F800000#32)) (FloatOps.cmpf (F := Ideal) .ogt z (Ideal.ofBits FTy.f32 0xFF800000#32)) = 1#1) : IsFin z := by
  obtain ⟨h1, h2⟩ := IntOp.andi_eq_one.1 h
  rw [ofBits_top] at h1
  rw [ofBits_bot] at h2
  exact ⟨of_decide_eq_true (by revert h1; show BitVec.ofBool (decide _) = _ → _; cases decide (z < ⊤) <;> simp),
    of_decide_eq_true (by revert h2; show BitVec.ofBool (decide _) = _ → _; cases decide (⊥ < z) <;> simp)⟩

theorem pre_x (h : (fn (F := Ideal) x r i w).1 = fun _ => 1#1) (t : Fin 512) (k : Fin 256) : IsFin (x (ix2 t k)) := by
  have e := congrFun h (ix2 t k)
  pointwise [fn, fn_part1] at e
  exact isFin_of_bits _ e

theorem pre_r (h : (fn (F := Ideal) x r i w).2.1 = fun _ => 1#1) (k : Fin 256) (e : Fin 64) : IsFin (r (ix2 k e)) := by
  have e := congrFun h (ix2 k e)
  pointwise [fn, fn_part1] at e
  exact isFin_of_bits _ e

theorem pre_range (h : (fn (F := Ideal) x r i w).2.2.1 = fun _ => 1#1) (t : Fin 512) (k : Fin 2) : (i (ix2 t k)).toNat < 64 := by
  have e := congrFun h (ix2 t k)
  pointwise [fn, fn_part1] at e
  exact (show IntOp.andi (IntOp.cmpi .sge (i (ix2 t k)) 0#32) (IntOp.cmpi .slt (i (ix2 t k)) 64#32) = 1#1 ↔ (i (ix2 t k)).toNat < 64 by word_cmp).1 e

theorem pre_ne (h : (fn (F := Ideal) x r i w).2.2.2 = fun _ => 1#1) (t : Fin 512) : i (ix2 t 0) ≠ i (ix2 t 1) := by
  have e := congrFun h (ix1 t)
  pointwise [fn, fn_part1] at e
  intro h'
  rw [h'] at e
  revert e
  show BitVec.ofBool (i (ix2 t 1) != i (ix2 t 1)) = 1#1 → False
  rw [bne_self_eq_false]
  decide

end Cert.Moe

end
-- ==== Proof.Algebraic.lean ====
/- The value claim: where the precondition holds, the kernel on its 32 devices and the reference on one end with the
   same result over the extended reals. -/
module

public import proofs.«01_k».proof.Defs
public import proofs.«01_k».proof.Proof.Equation
public import proofs.«01_k».proof.Proof.Domain

@[expose] public section

noncomputable section

namespace Cert.Moe

open Idealize.ShloMosaic Idealize.ShloMosaic.TcCoe Idealize.SL.Sem

/-- The two results are equal, entry by entry. -/
theorem algebraic : Cert.algebraic_KernelIdeal_ReferenceIdeal_pre_top2_KernelIdeal (hKernelIdeal := Cert.KernelIdeal.Gen.facts)
    (hReferenceIdeal := Cert.ReferenceIdeal.Gen.facts) (hPre_top2_KernelIdeal := Cert.Pre_top2_KernelIdeal.Gen.facts) := by
  letI := Cert.KernelIdeal.Gen.facts
  letI := Cert.ReferenceIdeal.Gen.facts
  intro m g m' g' hp ha
  obtain ⟨p1, p2, p3, p4⟩ := hp 0
  have a0 := (ha 0).1
  have a1 := (ha 0).2.1
  have a2 := (ha 0).2.2.1
  have hi := pre_range _ _ _ _ p3
  have hx := pre_x _ _ _ _ p1
  have hr := pre_r _ _ _ _ p2
  have hne := pre_ne _ _ _ _ p4
  rw [a2] at hi hne
  rw [a0] at hx
  rw [a1] at hr
  have heq : Cert.KernelIdeal.Moe.result m g = Cert.ReferenceIdeal.Value.res_main_v31 m' 0 := by
    funext j
    obtain ⟨t, h, rfl⟩ : ∃ (t h : Fin 512), j = ix2 t h := ⟨j 0, j 1, eq_ix2 j⟩
    refine (Cert.KernelIdeal.Moe.result_at m g _ _ _ _ hi (fun c => (ha c).1) (fun c => (ha c).2.1) (fun c => (ha c).2.2.1)
      (fun c => (ha c).2.2.2) hx hr hne t h).trans ?_
    rw [Cert.ReferenceIdeal.Moe.res_eq]
    exact (Cert.ReferenceIdeal.Moe.out_at _ _ _ _ hi t h).symm
  refine ⟨Cert.ReferenceIdeal.Value.res_main_v31 m' 0, ?_, ?_⟩
  · refine (θ_run _ _ _).mono (fun r h c => ?_) (Cert.KernelIdeal.Moe.run (F := Ideal) m g)
    exact ⟨(h.1 c).1.trans heq, (h.1 c).2⟩
  · exact (θ_run _ _ _).mono (fun r h => h 0) (Cert.ReferenceIdeal.Value.run (F := Ideal) m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_top2_KernelIdeal
public import proofs.«01_k».proof.Proof.Gen.Pre_top2_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_top2_KernelIdeal.Gen.facts, Cert.Pre_top2_ReferenceIdeal.Gen.facts,
  Cert.Moe.frame_word, Cert.Moe.frame_ideal, Cert.Moe.frame_ideal_pre, Cert.Moe.frame_reference, Cert.Moe.frame_reference_pre,
  trivial, Cert.Moe.algebraic⟩

end Cert.Proof

end
